-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_bounded [hPre_bounded : Cert.Pre_bounded.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_bounded.fn (F := Ideal) (m ((c.tc : Thread Cert.Kernel1Ideal.nD Cert.Kernel1Ideal.τ).loc Cert.Kernel1Ideal.main_arg0))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_bounded [hPre_bounded : Cert.Pre_bounded.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_bounded.fn (F := Ideal) (m ((c.tc : Thread Cert.Reference1Ideal.nD Cert.Reference1Ideal.τ).loc Cert.Reference1Ideal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_in_range [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0))
      ∧ r.2.sem = fun _ => 0)

def quiescent_Kernel1Ideal_pre_bounded [hKernel1Ideal : Cert.Kernel1Ideal.Facts] [hPre_bounded : Cert.Pre_bounded.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_bounded m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0))
      ∧ r.2.sem = fun _ => 0)

def quiescent_Reference1Ideal_pre_bounded [hReference1Ideal : Cert.Reference1Ideal.Facts] [hPre_bounded : Cert.Pre_bounded.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_bounded m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_in_range [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel1_Kernel1Ideal : Prop :=
  IdealRules.sign_bit.Statement Cert.Kernel1Ideal.S1x256 .f32

def algebraic_Kernel1Ideal_Reference1Ideal_pre_bounded [hKernel1Ideal : Cert.Kernel1Ideal.Facts] [hReference1Ideal : Cert.Reference1Ideal.Facts] [hPre_bounded : Cert.Pre_bounded.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_bounded m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)) →
    ∃ (v0 : (c : Dev Cert.Kernel1Ideal.nD) → Buf (Elt Ideal) ((c.tc : Thread Cert.Kernel1Ideal.nD Cert.Kernel1Ideal.τ).loc Cert.Kernel1Ideal.main_v1_2)) (v1 : (c : Dev Cert.Kernel1Ideal.nD) → Buf (Elt Ideal) ((c.tc : Thread Cert.Kernel1Ideal.nD Cert.Kernel1Ideal.τ).loc Cert.Kernel1Ideal.main_v4)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v1_2) = v0 c
          ∧ r.2.mem ((c.tc : Thread Cert.Kernel1Ideal.nD Cert.Kernel1Ideal.τ).loc Cert.Kernel1Ideal.main_v4) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v24) = v0 c
          ∧ r.2.mem ((c.tc : Thread Cert.Reference1Ideal.nD Cert.Reference1Ideal.τ).loc Cert.Reference1Ideal.main_v26) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0))

def preserves_Kernel2_Kernel2Ideal : Prop :=
  True

def algebraic_Kernel2Ideal_Reference2Ideal_pre_in_range [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v110) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hPre_bounded : Cert.Pre_bounded.Facts) (hPre_in_range : Cert.Pre_in_range.Facts),
    quiescent_Kernel1 (hKernel1 := hKernel1)
    ∧ quiescent_Kernel1Ideal (hKernel1Ideal := hKernel1Ideal)
    ∧ quiescent_Kernel1Ideal_pre_bounded (hKernel1Ideal := hKernel1Ideal) (hPre_bounded := hPre_bounded)
    ∧ quiescent_Reference1Ideal (hReference1Ideal := hReference1Ideal)
    ∧ quiescent_Reference1Ideal_pre_bounded (hReference1Ideal := hReference1Ideal) (hPre_bounded := hPre_bounded)
    ∧ quiescent_Kernel2 (hKernel2 := hKernel2)
    ∧ quiescent_Kernel2Ideal (hKernel2Ideal := hKernel2Ideal)
    ∧ quiescent_Kernel2Ideal_pre_in_range (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ preserves_Kernel1_Kernel1Ideal
    ∧ algebraic_Kernel1Ideal_Reference1Ideal_pre_bounded (hKernel1Ideal := hKernel1Ideal) (hReference1Ideal := hReference1Ideal) (hPre_bounded := hPre_bounded)
    ∧ preserves_Kernel2_Kernel2Ideal
    ∧ algebraic_Kernel2Ideal_Reference2Ideal_pre_in_range (hKernel2Ideal := hKernel2Ideal) (hReference2Ideal := hReference2Ideal) (hPre_in_range := hPre_in_range)
-- ==== Pre_bounded.lean ====
abbrev S4x2048x3 : Shape := ⟨3, ![4, 2048, 3]⟩
abbrev S_ : Shape := ⟨0, ![]⟩

class Facts : Prop where
  bcast_S_S4x2048x3 : S_.BroadcastsInDim S4x2048x3 (![] : Fin 0 → Fin S4x2048x3.rank)
  reducesTo_S4x2048x3_S_d0_1_2 : S4x2048x3.ReducesTo [0, 1, 2] S_
  h_S_ : 0 < S_.numel

variable [Facts]

def fn {F : FTy → Type} [FloatOps F] (main_arg0 : FVec F S4x2048x3 .f32) : IVec S_ 1 :=
  let main_v0 : FVec F S4x2048x3 .f32 := Host.absf main_arg0
  let main_cst : FVec F S_ .f32 := constant S_ .f32 0x5D5E0B6B#32
  let main_v1 : FVec F S4x2048x3 .f32 := broadcastInDim S4x2048x3 ![] bcast_S_S4x2048x3 main_cst
  let main_v2 : IVec S4x2048x3 1 := cmpf .ole main_v0 main_v1
  let main_c : IVec S_ 1 := constantI S_ 1 1#1
  let main_v3 : IVec S_ 1 := (fun x v => Host.reduce IntOp.andi x v reducesTo_S4x2048x3_S_d0_1_2 h_S_) main_v2 main_c
  main_v3
-- ==== Pre_in_range.lean ====
abbrev S4x3x2048 : Shape := ⟨3, ![4, 3, 2048]⟩
abbrev S4x3x16x2048 : Shape := ⟨4, ![4, 3, 16, 2048]⟩
abbrev S4x16x2048 : Shape := ⟨3, ![4, 16, 2048]⟩
abbrev S4x1x128 : Shape := ⟨3, ![4, 1, 128]⟩
abbrev S_ : Shape := ⟨0, ![]⟩

class Facts : Prop where
  bcast_S_S4x16x2048 : S_.BroadcastsInDim S4x16x2048 (![] : Fin 0 → Fin S4x16x2048.rank)
  reducesTo_S4x16x2048_S_d0_1_2 : S4x16x2048.ReducesTo [0, 1, 2] S_
  h_S_ : 0 < S_.numel

variable [Facts]

def fn {F : FTy → Type} [FloatOps F] (main_arg0 : FVec F S4x3x2048 .f32) (main_arg1 : FVec F S4x3x16x2048 .f32) (main_arg2 : IVec S4x16x2048 32) (main_arg3 : FVec F S4x1x128 .f32) : IVec S_ 1 :=
  let main_c : IVec S_ 32 := constantI S_ 32 0#32
  let main_v0 : IVec S4x16x2048 32 := broadcastInDim S4x16x2048 ![] bcast_S_S4x16x2048 main_c
  let main_v1 : IVec S4x16x2048 1 := cmpi .sge main_arg2 main_v0
  let main_c_0 : IVec S_ 32 := constantI S_ 32 2048#32
  let main_v2 : IVec S4x16x2048 32 := broadcastInDim S4x16x2048 ![] bcast_S_S4x16x2048 main_c_0
  let main_v3 : IVec S4x16x2048 1 := cmpi .slt main_arg2 main_v2
  let main_v4 : IVec S4x16x2048 1 := andi main_v1 main_v3
  let main_c_1 : IVec S_ 1 := constantI S_ 1 1#1
  let main_v5 : IVec S_ 1 := (fun x v => Host.reduce IntOp.andi x v reducesTo_S4x16x2048_S_d0_1_2 h_S_) main_v4 main_c_1
  main_v5
-- ==== Kernel1.lean ====
abbrev S4x2048x3 : Shape := ⟨3, ![4, 2048, 3]⟩
abbrev S4x3x2048 : Shape := ⟨3, ![4, 3, 2048]⟩
abbrev S4x3x16x2048 : Shape := ⟨4, ![4, 3, 16, 2048]⟩
abbrev S4x16x2048 : Shape := ⟨3, ![4, 16, 2048]⟩
abbrev S4x8x1x128 : Shape := ⟨4, ![4, 8, 1, 128]⟩
abbrev S1x2048x3 : Shape := ⟨3, ![1, 2048, 3]⟩
abbrev S1x3x2048 : Shape := ⟨3, ![1, 3, 2048]⟩
abbrev S1x3x256 : Shape := ⟨3, ![1, 3, 256]⟩
abbrev S1x3x16x256 : Shape := ⟨4, ![1, 3, 16, 256]⟩
abbrev S1x16x256 : Shape := ⟨3, ![1, 16, 256]⟩
abbrev S1x1x1x128 : Shape := ⟨4, ![1, 1, 1, 128]⟩
abbrev S2048x3 : Shape := ⟨2, ![2048, 3]⟩
abbrev S3x2048 : Shape := ⟨2, ![3, 2048]⟩
abbrev S3x256 : Shape := ⟨2, ![3, 256]⟩
abbrev S2048 : Shape := ⟨1, ![2048]⟩
abbrev S2048x1 : Shape := ⟨2, ![2048, 1]⟩
abbrev S256 : Shape := ⟨1, ![256]⟩
abbrev S1x256 : Shape := ⟨2, ![1, 256]⟩
abbrev S2048x256 : Shape := ⟨2, ![2048, 256]⟩
abbrev S16x256 : Shape := ⟨2, ![16, 256]⟩
abbrev S1x1x16x256 : Shape := ⟨4, ![1, 1, 16, 256]⟩
abbrev S1 : Shape := ⟨1, ![1]⟩
abbrev S1x1x1 : Shape := ⟨3, ![1, 1, 1]⟩
abbrev S1x128 : Shape := ⟨2, ![1, 128]⟩
abbrev S_ : Shape := ⟨0, ![]⟩
abbrev S4 : Shape := ⟨1, ![4]⟩
abbrev S4x1x1 : Shape := ⟨3, ![4, 1, 1]⟩
abbrev S4x1x128 : Shape := ⟨3, ![4, 1, 128]⟩

abbrev nBuf : Space → Nat
  | .hbm => 10
  | .vmem => 12
  | .smem => 0
  | _ => 0

abbrev bufTy : (tb : Table) → Fin (tcTables nBuf tb) → BufTy
  | .hbm, ⟨0, _⟩ => ⟨S4x2048x3, .f32⟩
  | .hbm, ⟨1, _⟩ => ⟨S4x3x2048, .f32⟩
  | .hbm, ⟨2, _⟩ => ⟨S4x3x2048, .f32⟩
  | .hbm, ⟨3, _⟩ => ⟨S4x3x16x2048, .f32⟩
  | .hbm, ⟨4, _⟩ => ⟨S4x16x2048, .i32⟩
  | .hbm, ⟨5, _⟩ => ⟨S4x8x1x128, .f32⟩
  | .hbm, ⟨6, _⟩ => ⟨S_, .f32⟩
  | .hbm, ⟨7, _⟩ => ⟨S4, .f32⟩
  | .hbm, ⟨8, _⟩ => ⟨S4x1x1, .f32⟩
  | .hbm, ⟨9, _⟩ => ⟨S4x1x128, .f32⟩
  | .local _ .vmem, ⟨0, _⟩ => ⟨S1x2048x3, .f32⟩
  | .local _ .vmem, ⟨1, _⟩ => ⟨S1x2048x3, .f32⟩
  | .local _ .vmem, ⟨2, _⟩ => ⟨S1x3x2048, .f32⟩
  | .local _ .vmem, ⟨3, _⟩ => ⟨S1x3x2048, .f32⟩
  | .local _ .vmem, ⟨4, _⟩ => ⟨S1x3x256, .f32⟩
  | .local _ .vmem, ⟨5, _⟩ => ⟨S1x3x256, .f32⟩
  | .local _ .vmem, ⟨6, _⟩ => ⟨S1x3x16x256, .f32⟩
  | .local _ .vmem, ⟨7, _⟩ => ⟨S1x3x16x256, .f32⟩
  | .local _ .vmem, ⟨8, _⟩ => ⟨S1x16x256, .i32⟩
  | .local _ .vmem, ⟨9, _⟩ => ⟨S1x16x256, .i32⟩
  | .local _ .vmem, ⟨10, _⟩ => ⟨S1x1x1x128, .f32⟩
  | .local _ .vmem, ⟨11, _⟩ => ⟨S1x1x1x128, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![4, 8], ![false, false]⟩

def k0_off1 (i : grid0.Coords) : Fin 3 → Nat :=
  let c0_5 : Index := 0#32
  let c0_6 : Index := 0#32
  let arg1 : BitVec 32 := BitVec.ofNat 32 (i 1).val
  let c256_i32 : BitVec 32 := 256#32
  let v4 : BitVec 32 := Scalar.muli arg1 c256_i32
  let v5 : Index := Scalar.indexCast v4
  ![0, 0, v5.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel1Ideal.lean ====
variable {F : FTy → Type} [FloatOps F]
-- ==== Reference1Ideal.lean ====
abbrev S4x2048x3 : Shape := ⟨3, ![4, 2048, 3]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x2048x16 : Shape := ⟨3, ![4, 2048, 16]⟩
abbrev S4x2048x16x1 : Shape := ⟨4, ![4, 2048, 16, 1]⟩
abbrev S4x2048x16x3 : Shape := ⟨4, ![4, 2048, 16, 3]⟩
abbrev S4x2048x1x3 : Shape := ⟨4, ![4, 2048, 1, 3]⟩
abbrev S4 : Shape := ⟨1, ![4]⟩
abbrev S4x16x2048 : Shape := ⟨3, ![4, 16, 2048]⟩
abbrev S4x1x1 : Shape := ⟨3, ![4, 1, 1]⟩
abbrev S4x1x128 : Shape := ⟨3, ![4, 1, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x3, .f32⟩
  | .hbm, ⟨2, _⟩ => ⟨S_, .f32⟩
  | .hbm, ⟨3, _⟩ => ⟨S4x2048, .f32⟩
  | .hbm, ⟨4, _⟩ => ⟨S4x2048x1, .f32⟩
  | .hbm, ⟨5, _⟩ => ⟨S4x1x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x16, .f32⟩
  | .hbm, ⟨16, _⟩ => ⟨S4x2048x16, .i32⟩
  | .hbm, ⟨17, _⟩ => ⟨S_, .i32⟩
  | .hbm, ⟨18, _⟩ => ⟨S4x2048x16, .i32⟩
  | .hbm, ⟨19, _⟩ => ⟨S4x2048x16, .i1⟩
  | .hbm, ⟨20, _⟩ => ⟨S_, .i32⟩
  | .hbm, ⟨21, _⟩ => ⟨S4x2048x16, .i32⟩
  | .hbm, ⟨22, _⟩ => ⟨S4x2048x16, .i32⟩
  | .hbm, ⟨23, _⟩ => ⟨S4x2048x16, .i32⟩
  | .hbm, ⟨24, _⟩ => ⟨S4x2048x16x1, .i32⟩
  | .hbm, ⟨25, _⟩ => ⟨S4x2048x16x3, .f32⟩
  | .hbm, ⟨26, _⟩ => ⟨S4x2048x1x3, .f32⟩
  | .hbm, ⟨27, _⟩ => ⟨S4x2048x16x3, .f32⟩
  | .hbm, ⟨28, _⟩ => ⟨S4x2048x16x3, .f32⟩
  | .hbm, ⟨29, _⟩ => ⟨S4x2048x16x3, .f32⟩
  | .hbm, ⟨30, _⟩ => ⟨S_, .f32⟩
  | .hbm, ⟨31, _⟩ => ⟨S4x2048x16, .f32⟩
  | .hbm, ⟨32, _⟩ => ⟨S4x2048x16, .f32⟩
  | .hbm, ⟨33, _⟩ => ⟨S_, .f32⟩
  | .hbm, ⟨34, _⟩ => ⟨S4, .f32⟩
  | .hbm, ⟨35, _⟩ => ⟨S4x16x2048, .i32⟩
  | .hbm, ⟨36, _⟩ => ⟨S4x1x1, .f32⟩
  | .hbm, ⟨37, _⟩ => ⟨S4x1x128, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_values : Ref sig .tc := ⟨.hbm, 15, rfl⟩
abbrev main_indices : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S4x3x2048 : Shape := ⟨3, ![4, 3, 2048]⟩
abbrev S4x3x16x2048 : Shape := ⟨4, ![4, 3, 16, 2048]⟩
abbrev S4x16x2048 : Shape := ⟨3, ![4, 16, 2048]⟩
abbrev S4x1x128 : Shape := ⟨3, ![4, 1, 128]⟩
abbrev S4x352x2048 : Shape := ⟨3, ![4, 352, 2048]⟩
abbrev S1x3x2048 : Shape := ⟨3, ![1, 3, 2048]⟩
abbrev S1x3x16x256 : Shape := ⟨4, ![1, 3, 16, 256]⟩
abbrev S1x16x256 : Shape := ⟨3, ![1, 16, 256]⟩
abbrev S1x1x128 : Shape := ⟨3, ![1, 1, 128]⟩
abbrev S1x352x256 : Shape := ⟨3, ![1, 352, 256]⟩
abbrev S3x2048 : Shape := ⟨2, ![3, 2048]⟩
abbrev S1x1x16x256 : Shape := ⟨4, ![1, 1, 16, 256]⟩
abbrev S16x256 : Shape := ⟨2, ![16, 256]⟩
abbrev S1x1x1 : Shape := ⟨3, ![1, 1, 1]⟩
abbrev S1x3x256 : Shape := ⟨3, ![1, 3, 256]⟩
abbrev S3x256 : Shape := ⟨2, ![3, 256]⟩
abbrev S2048x256 : Shape := ⟨2, ![2048, 256]⟩
abbrev S1x256 : Shape := ⟨2, ![1, 256]⟩
abbrev S352x256 : Shape := ⟨2, ![352, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S4x3x2048, .f32⟩
  | .hbm, ⟨1, _⟩ => ⟨S4x3x16x2048, .f32⟩
  | .hbm, ⟨2, _⟩ => ⟨S4x16x2048, .i32⟩
  | .hbm, ⟨3, _⟩ => ⟨S4x1x128, .f32⟩
  | .hbm, ⟨4, _⟩ => ⟨S4x352x2048, .f32⟩
  | .local _ .vmem, ⟨0, _⟩ => ⟨S1x3x2048, .f32⟩
  | .local _ .vmem, ⟨1, _⟩ => ⟨S1x3x2048, .f32⟩
  | .local _ .vmem, ⟨2, _⟩ => ⟨S1x3x16x256, .f32⟩
  | .local _ .vmem, ⟨3, _⟩ => ⟨S1x3x16x256, .f32⟩
  | .local _ .vmem, ⟨4, _⟩ => ⟨S1x16x256, .i32⟩
  | .local _ .vmem, ⟨5, _⟩ => ⟨S1x16x256, .i32⟩
  | .local _ .vmem, ⟨6, _⟩ => ⟨S1x1x128, .f32⟩
  | .local _ .vmem, ⟨7, _⟩ => ⟨S1x1x128, .f32⟩
  | .local _ .vmem, ⟨8, _⟩ => ⟨S1x352x256, .f32⟩
  | .local _ .vmem, ⟨9, _⟩ => ⟨S1x352x256, .f32⟩
  | _, _ => ⟨S4x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_18 : Index := 0#32
  let c0_19 : Index := 0#32
  let arg1 : BitVec 32 := BitVec.ofNat 32 (i 1).val
  let c256_i32 : BitVec 32 := 256#32
  let v12 : BitVec 32 := Scalar.muli arg1 c256_i32
  let v13 : Index := Scalar.indexCast v12
  ![0, 0, v13.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x3x2048 : Shape := ⟨3, ![4, 3, 2048]⟩
abbrev S4x3x16x2048 : Shape := ⟨4, ![4, 3, 16, 2048]⟩
abbrev S4x16x2048 : Shape := ⟨3, ![4, 16, 2048]⟩
abbrev S4x1x128 : Shape := ⟨3, ![4, 1, 128]⟩
abbrev S4x2048x3 : Shape := ⟨3, ![4, 2048, 3]⟩
abbrev S4x2048x16x3 : Shape := ⟨4, ![4, 2048, 16, 3]⟩
abbrev S4x2048x16 : Shape := ⟨3, ![4, 2048, 16]⟩
abbrev S4x1x1 : Shape := ⟨3, ![4, 1, 1]⟩
abbrev S4 : Shape := ⟨1, ![4]⟩
abbrev S_ : Shape := ⟨0, ![]⟩
abbrev S4x2048x16x1 : Shape := ⟨4, ![4, 2048, 16, 1]⟩
abbrev S2048 : Shape := ⟨1, ![2048]⟩
abbrev S1x2048x1 : Shape := ⟨3, ![1, 2048, 1]⟩
abbrev S4x2048x352 : Shape := ⟨3, ![4, 2048, 352]⟩
abbrev S4x2048 : Shape := ⟨2, ![4, 2048]⟩
abbrev S4x2048x1 : Shape := ⟨3, ![4, 2048, 1]⟩
abbrev S4x352x2048 : Shape := ⟨3, ![4, 352, 2048]⟩

abbrev nBuf : Space → Nat
  | .hbm => 187
  | .vmem => 0
  | .smem => 0
  | _ => 0

abbrev hbmTy0_0 (i : Nat) : BufTy := match i % 128 with
  | 0 => ⟨S4x3x2048, .f32⟩
  | 1 => ⟨S4x3x16x2048, .f32⟩
  | 2 => ⟨S4x16x2048, .i32⟩
  | 3 => ⟨S4x1x128, .f32⟩
  | 4 => ⟨S4x2048x3, .f32⟩
  | 5 => ⟨S4x2048x16x3, .f32⟩
  | 6 => ⟨S4x2048x16, .i32⟩
  | 7 => ⟨S4x1x1, .f32⟩
  | 8 => ⟨S4, .f32⟩
  | 9 => ⟨S_, .i32⟩
  | 10 => ⟨S4x2048x16, .i32⟩
  | 11 => ⟨S4x2048x16, .i1⟩
  | 12 => ⟨S_, .i32⟩
  | 13 => ⟨S4x2048x16, .i32⟩
  | 14 => ⟨S4x2048x16, .i32⟩
  | 15 => ⟨S4x2048x16, .i32⟩
  | 16 => ⟨S4x2048x16x1, .i32⟩
  | 17 => ⟨S4x2048x16x3, .f32⟩
  | 18 => ⟨S4x2048x16, .f32⟩
  | 19 => ⟨S_, .f32⟩
  | 20 => ⟨S_, .f32⟩
  | 21 => ⟨S_, .f32⟩
  | 22 => ⟨S4x2048x16, .f32⟩
  | 23 => ⟨S4x2048x16, .f32⟩
  | 24 => ⟨S_, .f32⟩
  | 25 => ⟨S4x2048x16, .f32⟩
  | 26 => ⟨S4x2048x16, .f32⟩
  | 27 => ⟨S_, .f32⟩
  | 28 => ⟨S4x2048x16, .f32⟩
  | 29 => ⟨S4x2048x16, .f32⟩
  | 30 => ⟨S_, .f32⟩
  | 31 => ⟨S4x2048x16, .f32⟩
  | 32 => ⟨S4x2048x16, .f32⟩
  | 33 => ⟨S_, .f32⟩
  | 34 => ⟨S4x2048x16, .f32⟩
  | 35 => ⟨S4x2048x16, .f32⟩
  | 36 => ⟨S4x2048x16, .f32⟩
  | 37 => ⟨S4x2048x16, .i32⟩
  | 38 => ⟨S_, .i32⟩
  | 39 => ⟨S_, .i32⟩
  | 40 => ⟨S_, .i32⟩
  | 41 => ⟨S4x2048x16, .i32⟩
  | 42 => ⟨S4x2048x16, .i32⟩
  | 43 => ⟨S_, .i32⟩
  | 44 => ⟨S4x2048x16, .i32⟩
  | 45 => ⟨S4x2048x16, .i32⟩
  | 46 => ⟨S4x2048x16x1, .f32⟩
  | 47 => ⟨S4x2048x16, .f32⟩
  | 48 => ⟨S4x2048x16x1, .f32⟩
  | 49 => ⟨S4x2048x16, .f32⟩
  | 50 => ⟨S4x2048x16x1, .f32⟩
  | 51 => ⟨S4x2048x16, .f32⟩
  | 52 => ⟨S4x2048x16, .f32⟩
  | 53 => ⟨S4x2048x16, .f32⟩
  | 54 => ⟨S4x2048x16, .f32⟩
  | 55 => ⟨S4x2048x16, .f32⟩
  | 56 => ⟨S4x2048x16, .f32⟩
  | 57 => ⟨S_, .f32⟩
  | 58 => ⟨S4x2048x16, .f32⟩
  | 59 => ⟨S4x2048x16, .f32⟩
  | 60 => ⟨S4x2048x16, .f32⟩
  | 61 => ⟨S4x2048x16, .f32⟩
  | 62 => ⟨S_, .f32⟩
  | 63 => ⟨S4x2048x16, .f32⟩
  | 64 => ⟨S4x2048x16, .f32⟩
  | 65 => ⟨S_, .f32⟩
  | 66 => ⟨S4x2048x16, .f32⟩
  | 67 => ⟨S4x2048x16, .f32⟩
  | 68 => ⟨S_, .f32⟩
  | 69 => ⟨S4x2048x16, .f32⟩
  | 70 => ⟨S4x2048x16, .f32⟩
  | 71 => ⟨S4x2048x16, .f32⟩
  | 72 => ⟨S4x2048x16, .i32⟩
  | 73 => ⟨S_, .i32⟩
  | 74 => ⟨S_, .i32⟩
  | 75 => ⟨S_, .i32⟩
  | 76 => ⟨S4x2048x16, .i32⟩
  | 77 => ⟨S4x2048x16, .i32⟩
  | 78 => ⟨S_, .i32⟩
  | 79 => ⟨S4x2048x16, .i32⟩
  | 80 => ⟨S4x2048x16, .i32⟩
  | 81 => ⟨S4x2048x16, .f32⟩
  | 82 => ⟨S_, .f32⟩
  | 83 => ⟨S_, .f32⟩
  | 84 => ⟨S_, .f32⟩
  | 85 => ⟨S4x2048x16, .f32⟩
  | 86 => ⟨S4x2048x16, .f32⟩
  | 87 => ⟨S_, .f32⟩
  | 88 => ⟨S4x2048x16, .f32⟩
  | 89 => ⟨S4x2048x16, .f32⟩
  | 90 => ⟨S_, .f32⟩
  | 91 => ⟨S4x2048x16, .f32⟩
  | 92 => ⟨S4x2048x16, .f32⟩
  | 93 => ⟨S_, .f32⟩
  | 94 => ⟨S4x2048x16, .f32⟩
  | 95 => ⟨S4x2048x16, .f32⟩
  | 96 => ⟨S_, .f32⟩
  | 97 => ⟨S4x2048x16, .f32⟩
  | 98 => ⟨S4x2048x16, .f32⟩
  | 99 => ⟨S4x2048x16, .f32⟩
  | 100 => ⟨S4x2048x16, .i32⟩
  | 101 => ⟨S_, .i32⟩
  | 102 => ⟨S_, .i32⟩
  | 103 => ⟨S_, .i32⟩
  | 104 => ⟨S4x2048x16, .i32⟩
  | 105 => ⟨S4x2048x16, .i32⟩
  | 106 => ⟨S_, .i32⟩
  | 107 => ⟨S4x2048x16, .i32⟩
  | 108 => ⟨S4x2048x16, .i32⟩
  | 109 => ⟨S_, .f32⟩
  | 110 => ⟨S4, .f32⟩
  | 111 => ⟨S4, .f32⟩
  | 112 => ⟨S4x1x1, .f32⟩
  | 113 => ⟨S4x2048x16, .f32⟩
  | 114 => ⟨S4x2048x16, .f32⟩
  | 115 => ⟨S_, .f32⟩
  | 116 => ⟨S4x2048x16, .f32⟩
  | 117 => ⟨S4x2048x16, .f32⟩
  | 118 => ⟨S4x2048x16, .f32⟩
  | 119 => ⟨S4x2048x16, .i32⟩
  | 120 => ⟨S_, .i32⟩
  | 121 => ⟨S_, .i32⟩
  | 122 => ⟨S_, .i32⟩
  | 123 => ⟨S4x2048x16, .i32⟩
  | 124 => ⟨S4x2048x16, .i32⟩
  | 125 => ⟨S_, .i32⟩
  | 126 => ⟨S4x2048x16, .i32⟩
  | 127 => ⟨S4x2048x16, .i32⟩
  | _ => ⟨S4x3x2048, .f32⟩

abbrev hbmTy0_1 (i : Nat) : BufTy := match i % 128 with
  | 0 => ⟨S_, .i32⟩
  | 1 => ⟨S4x2048x16, .i32⟩
  | 2 => ⟨S4x2048x16, .i32⟩
  | 3 => ⟨S4x2048x16, .i32⟩
  | 4 => ⟨S_, .i32⟩
  | 5 => ⟨S4x2048x16, .i32⟩
  | 6 => ⟨S4x2048x16, .i32⟩
  | 7 => ⟨S4x2048x16, .i32⟩
  | 8 => ⟨S_, .i32⟩
  | 9 => ⟨S4x2048x16, .i32⟩
  | 10 => ⟨S4x2048x16, .i32⟩
  | 11 => ⟨S4x2048x16, .i32⟩
  | 12 => ⟨S4, .i32⟩
  | 13 => ⟨S4x1x1, .i32⟩
  | 14 => ⟨S4x2048x16, .i32⟩
  | 15 => ⟨S2048, .i32⟩
  | 16 => ⟨S1x2048x1, .i32⟩
  | 17 => ⟨S4x2048x16, .i32⟩
  | 18 => ⟨S_, .f32⟩
  | 19 => ⟨S4x2048x352, .f32⟩
  | 20 => ⟨S_, .i32⟩
  | 21 => ⟨S4x2048x16, .i32⟩
  | 22 => ⟨S4x2048x16, .i1⟩
  | 23 => ⟨S_, .i32⟩
  | 24 => ⟨S4x2048x16, .i32⟩
  | 25 => ⟨S4x2048x16, .i32⟩
  | 26 => ⟨S4x2048x16, .i32⟩
  | 27 => ⟨S_, .i32⟩
  | 28 => ⟨S4x2048x16, .i32⟩
  | 29 => ⟨S4x2048x16, .i1⟩
  | 30 => ⟨S_, .i32⟩
  | 31 => ⟨S4x2048x16, .i32⟩
  | 32 => ⟨S4x2048x16, .i32⟩
  | 33 => ⟨S4x2048x16, .i32⟩
  | 34 => ⟨S_, .i32⟩
  | 35 => ⟨S4x2048x16, .i32⟩
  | 36 => ⟨S4x2048x16, .i1⟩
  | 37 => ⟨S_, .i32⟩
  | 38 => ⟨S4x2048x16, .i32⟩
  | 39 => ⟨S4x2048x16, .i32⟩
  | 40 => ⟨S4x2048x16, .i32⟩
  | 41 => ⟨S4x2048x16x1, .i32⟩
  | 42 => ⟨S4x2048x16x1, .i32⟩
  | 43 => ⟨S4x2048x16x1, .i32⟩
  | 44 => ⟨S4x2048x16x3, .i32⟩
  | 45 => ⟨S_, .f32⟩
  | 46 => ⟨S4x2048x16, .f32⟩
  | 47 => ⟨S4x2048x352, .f32⟩
  | 48 => ⟨S4x2048x352, .f32⟩
  | 49 => ⟨S_, .f32⟩
  | 50 => ⟨S4x2048, .f32⟩
  | 51 => ⟨S4x2048x1, .f32⟩
  | 52 => ⟨S4x2048x1, .f32⟩
  | 53 => ⟨S_, .f32⟩
  | 54 => ⟨S4x2048x1, .f32⟩
  | 55 => ⟨S4x2048x1, .f32⟩
  | 56 => ⟨S4x2048x352, .f32⟩
  | 57 => ⟨S4x2048x352, .f32⟩
  | 58 => ⟨S4x352x2048, .f32⟩
  | _ => ⟨S4x3x2048, .f32⟩

abbrev hbmTy (i : Nat) : BufTy := match i / 128 with
  | 0 => hbmTy0_0 i
  | 1 => hbmTy0_1 i
  | _ => ⟨S4x3x2048, .f32⟩

abbrev bufTy : (tb : Table) → Fin (tcTables nBuf tb) → BufTy
  | .hbm, ⟨i, _⟩ => hbmTy i
  | _, _ => ⟨S4x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_c_12 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v46 : Ref sig .tc := ⟨.hbm, 80, rfl⟩
abbrev main_v47 : Ref sig .tc := ⟨.hbm, 81, rfl⟩
abbrev main_cst_13 : Ref sig .tc := ⟨.hbm, 82, rfl⟩
abbrev main_cst_14 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v48 : Ref sig .tc := ⟨.hbm, 89, rfl⟩
abbrev main_cst_15 : Ref sig .tc := ⟨.hbm, 90, rfl⟩
abbrev main_v49 : Ref sig .tc := ⟨.hbm, 91, rfl⟩
abbrev main_v50 : Ref sig .tc := ⟨.hbm, 92, rfl⟩
abbrev main_cst_16 : Ref sig .tc := ⟨.hbm, 93, rfl⟩
abbrev main_v51 : Ref sig .tc := ⟨.hbm, 94, rfl⟩
abbrev main_v52 : Ref sig .tc := ⟨.hbm, 95, rfl⟩
abbrev main_cst_17 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_18 : Ref sig .tc := ⟨.hbm, 101, rfl⟩
abbrev main_c_19 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v57 : Ref sig .tc := ⟨.hbm, 108, rfl⟩
abbrev main_cst_20 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_21 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_c_22 : Ref sig .tc := ⟨.hbm, 120, rfl⟩
abbrev main_c_23 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v67 : Ref sig .tc := ⟨.hbm, 127, rfl⟩
abbrev main_c_24 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_25 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_c_26 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_27 : Ref sig .tc := ⟨.hbm, 146, rfl⟩
abbrev main_v83 : Ref sig .tc := ⟨.hbm, 147, rfl⟩
abbrev main_c_28 : Ref sig .tc := ⟨.hbm, 148, rfl⟩
abbrev main_v84 : Ref sig .tc := ⟨.hbm, 149, rfl⟩
abbrev main_v85 : Ref sig .tc := ⟨.hbm, 150, rfl⟩
abbrev main_c_29 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_c_30 : Ref sig .tc := ⟨.hbm, 155, rfl⟩
abbrev main_v89 : Ref sig .tc := ⟨.hbm, 156, rfl⟩
abbrev main_v90 : Ref sig .tc := ⟨.hbm, 157, rfl⟩
abbrev main_c_31 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_c_32 : Ref sig .tc := ⟨.hbm, 162, rfl⟩
abbrev main_v94 : Ref sig .tc := ⟨.hbm, 163, rfl⟩
abbrev main_v95 : Ref sig .tc := ⟨.hbm, 164, rfl⟩
abbrev main_c_33 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_cst_34 : Ref sig .tc := ⟨.hbm, 173, rfl⟩
abbrev main_v103 : Ref sig .tc := ⟨.hbm, 174, rfl⟩
abbrev main_v104 : Ref sig .tc := ⟨.hbm, 175, rfl⟩
abbrev main_call6_v0 : Ref sig .tc := ⟨.hbm, 176, rfl⟩
abbrev main_call6_cst : Ref sig .tc := ⟨.hbm, 177, rfl⟩
abbrev main_call6_v1 : Ref sig .tc := ⟨.hbm, 178, rfl⟩
abbrev main_call6_v2 : Ref sig .tc := ⟨.hbm, 179, rfl⟩
abbrev main_v105 : Ref sig .tc := ⟨.hbm, 180, rfl⟩
abbrev main_cst_35 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩

abbrev nD : Nat := 1
abbrev τ : Topo := Topo.v7x

variable {F : FTy → Type} [FloatOps F]
-- ==== Proof.Kernel1Launch.lean ====
module

public import proofs.«01_k».proof.Proof.Gen.Kernel1Ideal.Frame
public import Idealize.ShloMosaic.Lib.Pipeline.Value
public import Idealize.ShloMosaic.Lib.Pointwise

/-! # What the first program ends with

The program runs its call and then takes the greatest of the call's last result in every batch. Here its two results are
named after the arrays the call leaves, and those arrays' blocks after what the grid's steps stored. -/

@[expose] public section

set_option maxRecDepth 16384

noncomputable section

namespace Cert.Kernel1Ideal.Ends

open Cert.Kernel1Ideal Cert.Kernel1Ideal.Gen Idealize.ShloMosaic Idealize.ShloMosaic.TcCoe Idealize.SL.Sem

variable (m : (ℓ : Loc nD τ sig) → Buf (Elt Ideal) ℓ) (ρ : Dev nD → PrngReg) (c : Dev nD)

theorem apart4 : ∀ t t' : Fin cfg0.N, win0_4.index t = win0_4.index t' → t = t' :=
  (by decide +kernel : ∀ t t' : Fin grid0.N, win0_4.index t = win0_4.index t' → t = t')

theorem apart5 : ∀ t t' : Fin cfg0.N, win0_5.index t = win0_5.index t' → t = t' :=
  (by decide +kernel : ∀ t t' : Fin grid0.N, win0_5.index t = win0_5.index t' → t = t')

/-- A step's block of indices. -/
theorem indices_block (t : Fin cfg0.N) : ((cfg0.win 4).blk t).view.read (Elt Ideal) ((dats m 0 c).arrAt 4 cfg0.N)
    = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t)) := by
  refine ((dats m 0 c).read_blk_arrAt_eq_flushed 4 (fun t t' _ _ hne => (cfg0.win 4).disjoint_blk fun h => hne (apart4 t t' h))
    cfg0.N t t.isLt (flush0_4 _)).trans ?_
  show (cfg0.win 4).cut (grid0.coords t) ((dats m 0 c).after 4 t) = _
  rw [after0_4]
  simp only [outsAt0]

/-- A step's block of greatest norms. -/
theorem norms_block (t : Fin cfg0.N) : ((cfg0.win 5).blk t).view.read (Elt Ideal) ((dats m 0 c).arrAt 5 cfg0.N)
    = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t)) := by
  refine ((dats m 0 c).read_blk_arrAt_eq_flushed 5 (fun t t' _ _ hne => (cfg0.win 5).disjoint_blk fun h => hne (apart5 t t' h))
    cfg0.N t t.isLt (flush0_5 _)).trans ?_
  show (cfg0.win 5).cut (grid0.coords t) ((dats m 0 c).after 5 t) = _
  rw [after0_5]
  simp only [outsAt0]

/-- The radius of an array of norms: the greatest of every batch, in every lane. -/
def radius (x : FVec Ideal S4x8x1x128 .f32) : FVec Ideal S4x1x128 .f32 :=
  broadcastInDim S4x1x128 ![0, 1, 2] bcast_S4x1x1_S4x1x128_0_1_2 (broadcastInDim S4x1x1 ![0] bcast_S4_S4x1x1_0
    (Host.reduce FloatOps.maximumf x (constant S_ .f32 0xFF800000#32) reducesTo_S4x8x1x128_S4_d1_2_3 h_S_))

theorem tail_eq : Pipeline.afterTail₀ cfgs (dats m) 0 (V0 m) [hostOps1] c main_v4
    = radius ((dats m 0 c).arrAt 5 cfg0.N) := by
  have h : Pipeline.withArrays spec0 c (V0 m c) (fun w => (dats m 0 c).arrAt w cfg0.N) (Proc.devRef .tc main_v1_3)
      = (dats m 0 c).arrAt 5 cfg0.N := Pipeline.withArrays_arr spec0 launch0.win.arr_inj c (V0 m c) _ 5
  rw [← h]
  rfl

/-- The program ends with the call's indices and with the radius of the call's norms. -/
theorem run_results : θ_run defs (onTc (τ := τ) (main (F := Ideal))) ⟨m, fun _ => 0, ρ⟩ fun r => ∀ c : Dev nD,
    r.2.mem ((c : Thread nD τ).loc main_v1_2) = (dats m 0 c).arrAt 4 cfg0.N
      ∧ r.2.mem ((c : Thread nD τ).loc main_v4) = radius ((dats m 0 c).arrAt 5 cfg0.N)
      ∧ r.2.mem ((c : Thread nD τ).loc main_arg0) = m ((c : Thread nD τ).loc main_arg0) :=
  (θ_run defs _ _).mono (fun r h c => ⟨(h c).1 4, ((h c).2 main_v4 (by decide)).trans (tail_eq m c),
    ((h c).1 0).trans (((dats m 0 c).arrAt_in 0 rfl _).trans ((A_eq m c 0).trans (V_main_arg0 m c)))⟩) (run_main m ρ)

end Cert.Kernel1Ideal.Ends

end
-- ==== Proof.Ranking.lean ====
module

public import Idealize.ShloMosaic.Lib.SortPrefix
public import Idealize.ShloMosaic.Lib.SortFacts
public import Mathlib.Data.EReal.Basic

/-! # Ranking positions by distance

The positions of a column of distances, ranked: nearest first, of equal distances the smaller position first.
`ranked f k` is what a stable sort by distance puts at place `k`. `Pick v a` says that `a` is the first position at
which `v` is least; overwriting each picked position by a number above every distance, round `k` picks `ranked f k`. -/

@[expose] public section

namespace Cert.Ranking

open Idealize.ShloMosaic

variable {n : ℕ}

/-- Strictly nearer. -/
noncomputable def nearer (f : Fin n → EReal) (a b : Fin n) : Bool := decide (f a < f b)

/-- Nearer, or as near and at a smaller position. -/
noncomputable def earlier (f : Fin n → EReal) (a b : Fin n) : Bool :=
  nearer f a b || (decide (f a = f b) && decide (a < b))

theorem earlier_total (f : Fin n → EReal) : StrictTotalBefore (earlier f) :=
  StrictTotalBefore.of_key_then_position (fun x y : EReal => decide (x < y)) f (fun a => by simp)
    (fun a b c hab hbc => by
      simp only [decide_eq_true_eq] at hab hbc ⊢
      exact hab.trans hbc)
    (fun a b => by
      simp only [decide_eq_true_eq]
      exact lt_trichotomy a b)

/-- On positions in increasing order the stable sort by distance alone is the sort by distance, then position. -/
theorem stableSort_eq (f : Fin n → EReal) : ∀ l : List (Fin n), l.Pairwise (· < ·) →
    stableSort (nearer f) l = stableSort (earlier f) l
  | [], _ => rfl
  | a :: l, h => by
    obtain ⟨ha, hl⟩ := List.pairwise_cons.mp h
    unfold stableSort
    rw [stableSort_eq f l hl]
    refine insertBefore_congr _ _ a _ fun b hb => ?_
    have hab : a < b := ha b ((perm_stableSort _ l).mem_iff.mp hb)
    simp [earlier, not_lt.mpr hab.le]

/-- The position at place `k` of the ranking. -/
noncomputable def ranked (f : Fin n → EReal) (k : Fin n) : Fin n := sortedFrom (nearer f) k

theorem ranked_injective (f : Fin n → EReal) : Function.Injective (ranked f) := sortedFrom_injective _

theorem ranked_surjective (f : Fin n → EReal) : Function.Surjective (ranked f) := sortedFrom_surjective _

/-- No later place is earlier than a smaller one. -/
theorem ranked_ordered (f : Fin n → EReal) (k l : Fin n) (h : k < l) : earlier f (ranked f l) (ranked f k) = false := by
  have hp := (earlier_total f).sorted_stableSort (List.finRange n)
  rw [← stableSort_eq f _ (List.pairwise_lt_finRange n), List.pairwise_iff_get] at hp
  exact hp (k.cast (length_sortPositions n (nearer f)).symm) (l.cast (length_sortPositions n (nearer f)).symm) h

theorem ranked_lt (f : Fin n → EReal) (k l : Fin n) (h : k < l) :
    f (ranked f k) < f (ranked f l) ∨ f (ranked f k) = f (ranked f l) ∧ ranked f k < ranked f l := by
  have ho := ranked_ordered f k l h
  rcases (earlier_total f).total (ranked f k) (ranked f l) fun e => h.ne (ranked_injective f e) with h1 | h1
  · simpa [earlier, nearer] using h1
  · rw [h1] at ho
    exact absurd ho (by decide)

/-- `a` is the first position at which `v` is least. -/
def Pick (v : Fin n → EReal) (a : Fin n) : Prop := (∀ j, v a ≤ v j) ∧ ∀ j, v j = v a → a ≤ j

/-- The distances with the first `r` positions of the ranking overwritten by `big`. -/
noncomputable def masked (f : Fin n → EReal) (big : EReal) (r : ℕ) (i : Fin n) : EReal :=
  open Classical in if ∃ s : Fin n, s.val < r ∧ ranked f s = i then big else f i

theorem masked_zero (f : Fin n → EReal) (big : EReal) (i : Fin n) : masked f big 0 i = f i := by
  unfold masked
  rw [if_neg (by rintro ⟨s, h, -⟩; exact absurd h (Nat.not_lt_zero _))]

theorem masked_ranked (f : Fin n → EReal) (big : EReal) (r : ℕ) (s : Fin n) :
    masked f big r (ranked f s) = if s.val < r then big else f (ranked f s) := by
  unfold masked
  by_cases h : s.val < r
  · rw [if_pos ⟨s, h, rfl⟩, if_pos h]
  · rw [if_neg (by rintro ⟨t, ht, e⟩; exact h (ranked_injective f e ▸ ht)), if_neg h]

theorem masked_succ (f : Fin n → EReal) (big : EReal) (r : Fin n) (i : Fin n) :
    masked f big (r.val + 1) i = if i = ranked f r then big else masked f big r.val i := by
  obtain ⟨s, rfl⟩ := ranked_surjective f i
  rw [masked_ranked, masked_ranked]
  by_cases h : s = r
  · subst h
    simp
  · rw [if_neg fun e => h (ranked_injective f e)]
    have hv : s.val ≠ r.val := fun e => h (Fin.ext e)
    by_cases h' : s.val < r.val
    · rw [if_pos h', if_pos (by omega)]
    · rw [if_neg h', if_neg (by omega)]

/-- With every distance below `big`, round `r` picks the position at place `r` of the ranking. -/
theorem pick_masked (f : Fin n → EReal) (big : EReal) (hf : ∀ i, f i < big) (r : Fin n) :
    Pick (masked f big r.val) (ranked f r) := by
  have hr : masked f big r.val (ranked f r) = f (ranked f r) := by rw [masked_ranked, if_neg (lt_irrefl _)]
  refine ⟨fun j => ?_, fun j hj => ?_⟩
  · obtain ⟨s, rfl⟩ := ranked_surjective f j
    rw [hr, masked_ranked]
    split
    · exact (hf _).le
    · rcases lt_or_eq_of_le (not_lt.mp ‹_›) with h | h
      · rcases ranked_lt f r s h with h1 | h1
        · exact h1.le
        · exact h1.1.le
      · rw [Fin.ext h]
  · obtain ⟨s, rfl⟩ := ranked_surjective f j
    rw [hr, masked_ranked] at hj
    split at hj
    · exact absurd hj (hf _).ne'
    · rcases lt_or_eq_of_le (not_lt.mp ‹_›) with h | h
      · rcases ranked_lt f r s h with h1 | h1
        · exact absurd hj h1.ne'
        · exact h1.2.le
      · rw [Fin.ext h]

/-- There is only one pick. -/
theorem Pick.unique {v : Fin n → EReal} {a b : Fin n} (ha : Pick v a) (hb : Pick v b) : a = b :=
  have e : v a = v b := le_antisymm (ha.1 b) (hb.1 a)
  le_antisymm (ha.2 b e.symm) (hb.2 a e)

end Cert.Ranking

end
-- ==== Proof.LeastWord.lean ====
module

public import Idealize.ShloMosaic.Lib.Pointwise
public import Idealize.ShloMosaic.Lib.DynamicIndex
public import proofs.«01_k».proof.Proof.Ranking

/-! # The first least position, as two reductions compute it

The least of a column, and then the least of the positions that hold it (a signed minimum in which the other positions
take part as `n`): together they find the position `Pick` speaks of. -/

@[expose] public section

noncomputable section

namespace Cert.Ranking

open Idealize.ShloMosaic

/-- A minimum from +∞ over a column is the value at the picked position. -/
theorem fold_min {n : ℕ} (v : Fin n → EReal) (a : Fin n) (h : Pick v a) : Finset.fold min ⊤ v Finset.univ = v a := by
  refine le_antisymm ?_ ?_
  · exact (Finset.fold_min_le (v a)).mpr (Or.inr ⟨a, Finset.mem_univ a, le_rfl⟩)
  · exact (Finset.le_fold_min (v a)).mpr ⟨le_top, fun j _ => h.1 j⟩

/-- The signed minimum over a finite set is the word `w` that is among the values and below each. -/
theorem fold_minsi {ι : Type} [DecidableEq ι] (b w : BitVec 32) (g : ι → BitVec 32) (hb : IntOp.minsi w b = w)
    (s : Finset ι) (hg : ∀ x ∈ s, IntOp.minsi w (g x) = w) :
    IntOp.minsi w (Finset.fold IntOp.minsi b g s) = w ∧ ((∃ a ∈ s, g a = w) → Finset.fold IntOp.minsi b g s = w) := by
  induction s using Finset.induction_on with
  | empty => exact ⟨hb, by rintro ⟨a, ha, -⟩; exact absurd ha (Finset.notMem_empty a)⟩
  | insert x s hx ih =>
    obtain ⟨ih1, ih2⟩ := ih fun y hy => hg y (Finset.mem_insert_of_mem hy)
    have hgx := hg x (Finset.mem_insert_self x s)
    rw [Finset.fold_insert hx]
    refine ⟨?_, ?_⟩
    · rw [← Std.Associative.assoc (op := IntOp.minsi (w := 32)), hgx, ih1]
    · rintro ⟨a, ha, e⟩
      rcases Finset.mem_insert.mp ha with rfl | ha
      · rw [e, ih1]
      · rw [ih2 ⟨a, ha, e⟩, Std.Commutative.comm (op := IntOp.minsi (w := 32)), hgx]

/-- On small numbers the signed minimum is the minimum. -/
theorem minsi_ofNat (a x : ℕ) (hx : x < 2 ^ 31) (h : a ≤ x) : IntOp.minsi (BitVec.ofNat 32 a) (BitVec.ofNat 32 x) = BitVec.ofNat 32 a := by
  unfold IntOp.minsi
  split
  · rfl
  · rename_i hs
    rw [BitVec.slt_eq_decide, decide_eq_true_eq, toInt_ofNat_of_lt hx, toInt_ofNat_of_lt (by omega)] at hs
    have : a = x := by omega
    rw [this]

/-- The least position holding the least value, the others counted as `n`. -/
theorem fold_first {n : ℕ} (hn : n < 2 ^ 31) (v : Fin n → EReal) (a : Fin n) (h : Pick v a) :
    Finset.fold IntOp.minsi 2147483647#32 (fun x => if v x = v a then BitVec.ofNat 32 x.val else BitVec.ofNat 32 n) Finset.univ
      = BitVec.ofNat 32 a.val := by
  have ha := a.isLt
  refine (fold_minsi 2147483647#32 (BitVec.ofNat 32 a.val) _ (minsi_ofNat a.val 2147483647 (by norm_num) (by omega)) Finset.univ
    fun x _ => ?_).2 ⟨a, Finset.mem_univ a, if_pos rfl⟩
  have hx := x.isLt
  split
  · rename_i e
    exact minsi_ofNat a.val x.val (by omega) (h.2 x e)
  · exact minsi_ofNat a.val n hn ha.le

end Cert.Ranking

end
-- ==== Proof.OneHotWord.lean ====
module

public import Idealize.ShloMosaic.Lib.Pointwise
public import Idealize.ShloMosaic.Lib.ValueIdx

@[expose] public section

noncomputable section

/-! A comparison of two words made a number, and the sum that such numbers select: the facts about one-hot columns that
    both halves of the descriptor use. -/

namespace Cert.OneHot

open Idealize.ShloMosaic

/-- An equality test, widened and made a float, is 1 where the words agree and 0 elsewhere. -/
theorem eqWord (a b : BitVec 32) :
    (FloatOps.sitofp .f32 (BitVec.setWidth 32 (IntOp.cmpi .eq a b)) : Ideal .f32) = if a = b then (1 : EReal) else 0 := by
  by_cases h : a = b
  · subst h
    simp [IntOp.cmpi, FloatOps.sitofp]
  · have h' : (a == b) = false := beq_eq_false_iff_ne.mpr h
    simp [IntOp.cmpi, FloatOps.sitofp, h, h']

/-- Words below 2^32 count as the numbers they hold. -/
theorem ofNat_inj {n : ℕ} (hn : n ≤ 2 ^ 32) (a b : Fin n) : BitVec.ofNat 32 a.val = BitVec.ofNat 32 b.val ↔ a = b := by
  constructor
  · intro h
    have := congrArg BitVec.toNat h
    simp only [BitVec.toNat_ofNat] at this
    have ha := a.isLt
    have hb := b.isLt
    rw [Nat.mod_eq_of_lt (by omega), Nat.mod_eq_of_lt (by omega)] at this
    exact Fin.ext this
  · rintro rfl; rfl

/-- A sum against the column that is one at `q` only picks the entry at `q`. -/
theorem sum_pick {n : ℕ} (hn : n ≤ 2 ^ 32) (f : Fin n → EReal) (q : Fin n) :
    (∑ i : Fin n, f i * (if BitVec.ofNat 32 i.val = BitVec.ofNat 32 q.val then (1 : EReal) else 0)) = f q := by
  simp only [ofNat_inj hn, mul_ite, mul_one, mul_zero, Finset.sum_ite_eq', Finset.mem_univ, if_true]

end Cert.OneHot

end
-- ==== Proof.Kernel1Rounds.lean ====
module

public import proofs.«01_k».proof.Proof.Gen.Kernel1Ideal.Frame
public import proofs.«01_k».proof.Proof.LeastWord
public import proofs.«01_k».proof.Proof.OneHotWord

/-! # The first call's sixteen rounds

A round finds, in every column of the block of distances, the first row of least distance, writes its number down and
overwrites its distance. Here a round is named as three vector functions, the body's stored block of indices is told in
them, and the rows of that block are read as places of the ranking. -/

@[expose] public section

set_option maxRecDepth 16384

noncomputable section

namespace Cert.Kernel1Ideal.Near

open Cert.Kernel1Ideal Cert.Kernel1Ideal.Gen Idealize.ShloMosaic Idealize.ShloMosaic.TcCoe Idealize.SL.Sem

/-- The row numbers. -/
def places : IVec S2048x256 32 := iota .tc S2048x256 32 [0] iota_S2048x256_d0_w32

/-- Every column's least distance. -/
def least (v : FVec Ideal S2048x256 .f32) : FVec Ideal S1x256 .f32 :=
  shapeCast S1x256 (multiReduction .minimumf [0] S256 v 0x7F800000#32 reduces_S2048x256_S256 (.inl rfl) rfl) shapeCasts_S256_S1x256

/-- Every column's first row of least distance. -/
def first (v : FVec Ideal S2048x256 .f32) : IVec S1x256 32 :=
  shapeCast S1x256 (multiReductionI .minsi [0] S256
    (select (cmpf .oeq v (broadcastTo S2048x256 (least v) broadcasts_S1x256_S2048x256)) places (broadcast S2048x256 2048#32))
    2147483647#32 reduces_S2048x256_S256 rfl) shapeCasts_S256_S1x256

/-- The distances with every column's first least one overwritten. -/
def next (v : FVec Ideal S2048x256 .f32) : FVec Ideal S2048x256 .f32 :=
  select (cmpi .eq places (broadcastTo S2048x256 (first v) broadcasts_S1x256_S2048x256))
    (broadcast S2048x256 (Scalar.ofBits .f32 0x7F7FC99E#32)) v

/-- The distances after `r` rounds. -/
def after (v : FVec Ideal S2048x256 .f32) : ℕ → FVec Ideal S2048x256 .f32
  | 0 => v
  | r + 1 => next (after v r)

/-- The number the rounds overwrite a distance with. -/
def big : EReal := Ideal.ofBits FTy.f32 0x7F7FC99E#32

theorem least_apply (v : FVec Ideal S2048x256 .f32) (j : Fin 256) (a : Fin 2048)
    (h : Ranking.Pick (fun i : Fin 2048 => (v (ix2 i j) : EReal)) a) : least v (ix2 0 j) = v (ix2 a j) := by
  have ht : Ideal.ofBits FTy.f32 2139095040#32 = ⊤ := by simp [Ideal.ofBits, Ideal.ieee]
  unfold least
  pointwise
  rw [ht]
  exact Ranking.fold_min _ a h

theorem first_apply (v : FVec Ideal S2048x256 .f32) (j : Fin 256) (a : Fin 2048)
    (h : Ranking.Pick (fun i : Fin 2048 => (v (ix2 i j) : EReal)) a) : first v (ix2 0 j) = BitVec.ofNat 32 a.val := by
  have hl := least_apply v j a h
  unfold first places
  pointwise
  rw [hl]
  exact Ranking.fold_first (by norm_num) _ a h

theorem next_apply (v : FVec Ideal S2048x256 .f32) (j : Fin 256) (a : Fin 2048)
    (h : Ranking.Pick (fun i : Fin 2048 => (v (ix2 i j) : EReal)) a) (i : Fin 2048) :
    next v (ix2 i j) = if i = a then big else v (ix2 i j) := by
  have hf := first_apply v j a h
  unfold next places
  pointwise
  rw [hf]
  by_cases e : i = a
  · rw [if_pos e, e]
    simp [Scalar.select, IntOp.cmpi, big]
  · have e' : (BitVec.ofNat 32 i.val == BitVec.ofNat 32 a.val) = false :=
      beq_eq_false_iff_ne.mpr fun h' => e ((OneHot.ofNat_inj (by norm_num) i a).mp h')
    rw [if_neg e]
    simp [Scalar.select, IntOp.cmpi, e']

/-- After `r` rounds the first `r` places of the ranking are overwritten. -/
theorem after_apply (v : FVec Ideal S2048x256 .f32) (j : Fin 256) (f : Fin 2048 → EReal) (hv : ∀ i, v (ix2 i j) = f i)
    (hf : ∀ i, f i < big) : ∀ (r : ℕ), r ≤ 2048 → ∀ i : Fin 2048, after v r (ix2 i j) = Ranking.masked f big r i
  | 0, _, i => (hv i).trans (Ranking.masked_zero f big i).symm
  | r + 1, h, i => by
    have ih := after_apply v j f hv hf r (Nat.le_of_succ_le h)
    have hp : Ranking.Pick (fun i : Fin 2048 => (after v r (ix2 i j) : EReal)) (Ranking.ranked f ⟨r, h⟩) := by
      have hq := Ranking.pick_masked f big hf ⟨r, h⟩
      rwa [show (fun i : Fin 2048 => (after v r (ix2 i j) : EReal)) = Ranking.masked f big r from funext ih]
    have hn := next_apply (after v r) j _ hp i
    rw [ih i] at hn
    exact hn.trans (Ranking.masked_succ f big ⟨r, h⟩ i).symm

/-- Round `r` writes down the position at place `r` of the ranking. -/
theorem round_apply (v : FVec Ideal S2048x256 .f32) (j : Fin 256) (f : Fin 2048 → EReal) (hv : ∀ i, v (ix2 i j) = f i)
    (hf : ∀ i, f i < big) (r : Fin 2048) : first (after v r.val) (ix2 0 j) = BitVec.ofNat 32 (Ranking.ranked f r).val := by
  refine first_apply _ j _ ?_
  have hq := Ranking.pick_masked f big hf r
  rwa [show (fun i : Fin 2048 => (after v r.val (ix2 i j) : EReal)) = Ranking.masked f big r.val from
    funext (after_apply v j f hv hf r.val r.isLt.le)]

/-- The rounds' numbers, one row a round. -/
def rows (v : FVec Ideal S2048x256 .f32) : IVec S16x256 32 :=
  concatenate S16x256 0 (List.ofFn fun k : Fin 16 => (⟨S1x256, first (after v k.val)⟩ : (s : Shape) × (s.Idx → BitVec 32)))
    concatenates_S1x256_S1x256_S1x256_S1x256_S1x256_S1x256_S1x256_S1x256_S1x256_S1x256_S1x256_S1x256_S1x256_S1x256_S1x256_S1x256_S16x256_d0

theorem rows_apply (v : FVec Ideal S2048x256 .f32) (k : Fin 16) (j : Fin 256) :
    rows v (ix2 k j) = first (after v k.val) (ix2 0 j) := by
  unfold rows
  refine (concatenate_ofFn_unit_apply (t := S16x256) (s₁ := S1x256) (0 : Fin 2) (fun k : Fin 16 => first (after v k.val)) _ rfl rfl
    (ix2 k j : S16x256.Idx) k rfl (ix2 0 j) (fun b hb => ?_))
  fin_cases b
  · exact absurd rfl hb
  · rfl

section block
variable (c : Dev nD) (t : Fin cfg0.N) (x0 : Vec Ideal S1x2048x3 .f32) (x1 : Vec Ideal S1x3x2048 .f32)

/-- The step's own columns of the transposed vertices. -/
abbrev ownCols : Vec Ideal S1x3x256 .f32 := View.ld x1 (Rect.unit (s := S1x3x2048) (k0_off1 (grid0.coords t)) S1x3x256.size (k0_off1_inb (grid0.coords t)))

theorem hz3 : (![0, 0, 0] : Fin 3 → Nat) = fun _ => 0 := funext fun a => by fin_cases a <;> rfl

theorem block_eq : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) x0 x1
    = shapeCast S1x16x256 (rows (k0_pay4 x0 (ownCols t x1))) shapeCasts_S16x256_S1x16x256 := by
  unfold out0_A_4
  rw [View.read_writes_eq_canon _ _ _ (cover0_A_4 c _ _ _ _ _ _ _ _ _ _ _ _ _ _ _)]
  unfold kernelRun0_A
  dsimp only
  sl_unfold_words
  rw [View.canon_unit_zero hz3]
  simp only [View.readAt_eq_ld, (hs0_0 t).read_unread, (hs0_1 t).read_unread, View.ld_unit_zero (S := S1x2048x3) hz3, View.ld_unit_zero (S := S1x3x2048) hz3]
  rfl

end block

end Cert.Kernel1Ideal.Near

end
-- ==== Proof.Distances.lean ====
module

public import Idealize.ShloMosaic.Lib.Pointwise
public import proofs.«01_k».proof.Proof.Ranking

/-! # The squared distances between the vertices of a batch -/

@[expose] public section

noncomputable section

namespace Cert.Neighbours

open Idealize.ShloMosaic

/-- The vertices: four batches of 2048 points in space. -/
abbrev Vertices : Type := FVec Ideal (⟨3, ![4, 2048, 3]⟩ : Shape) .f32

/-- The squared distance from point `n` to point `i`, by the squares of the two and their product. -/
def dist (v : Vertices) (b : Fin 4) (n i : Fin 2048) : EReal :=
  ∑ d : Fin 3, v (ix3 b n d) * v (ix3 b n d) + ∑ d : Fin 3, v (ix3 b i d) * v (ix3 b i d)
    - Ideal.ofBits FTy.f32 0x40000000#32 * ∑ d : Fin 3, v (ix3 b n d) * v (ix3 b i d)

/-- The points by their distance from point `n`. -/
def nearest (v : Vertices) (b : Fin 4) (n k : Fin 2048) : Fin 2048 := Ranking.ranked (dist v b n) k

/-- The length of the difference from point `n` to point `i`. -/
def apart (v : Vertices) (b : Fin 4) (n i : Fin 2048) : EReal :=
  Ideal.sqrt (∑ d : Fin 3, (v (ix3 b i d) - v (ix3 b n d)) * (v (ix3 b i d) - v (ix3 b n d)))

/-- The length of the difference from point `n` to its neighbour at place `k`. -/
def away (v : Vertices) (b : Fin 4) (n : Fin 2048) (k : Fin 16) : EReal := apart v b n (nearest v b n (k.castLE (by decide)))

/-- The radius of a batch: the greatest of these lengths. -/
def reach (v : Vertices) (b : Fin 4) : EReal := Finset.univ.sup fun s : Fin 2048 × Fin 16 => away v b s.1 s.2

end Cert.Neighbours

end
-- ==== Proof.Kernel1Array.lean ====
module

public import proofs.«01_k».proof.Proof.Kernel1Launch
public import proofs.«01_k».proof.Proof.Kernel1Rounds
public import proofs.«01_k».proof.Proof.Distances

/-! # The first call's array of neighbour indices

What the blocks of the first call hold in terms of the vertices, and from that the array of indices it leaves. -/

@[expose] public section

set_option maxRecDepth 16384

noncomputable section

namespace Cert.Kernel1Ideal.Near

open Cert.Kernel1Ideal Cert.Kernel1Ideal.Gen Idealize.ShloMosaic Idealize.ShloMosaic.TcCoe Idealize.SL.Sem

variable (m : (ℓ : Loc nD τ sig) → Buf (Elt Ideal) ℓ) (c : Dev nD)

/-- The grid step of batch `b` and column tile `i`. -/
def step (b : Fin 4) (i : Fin 8) : Fin cfg0.N := ⟨8 * b.val + i.val, by have : cfg0.N = 32 := N_0; omega⟩

theorem index_vertices : ∀ (b : Fin 4) (i : Fin 8), win0_0.index (step b i) = ![b.val, 0, 0] := by decide +kernel
theorem index_turned : ∀ (b : Fin 4) (i : Fin 8), win0_1.index (step b i) = ![b.val, 0, 0] := by decide +kernel
theorem index_out : ∀ (b : Fin 4) (i : Fin 8), win0_4.index (step b i) = ![b.val, 0, i.val] := by decide +kernel
theorem own_off : ∀ (b : Fin 4) (i : Fin 8), k0_off1 (grid0.coords (step b i)) = ![0, 0, 256 * i.val] := by decide +kernel

/-- Column `j` of tile `i`. -/
abbrev col (i : Fin 8) (j : Fin 256) : Fin 2048 := ⟨256 * i.val + j.val, by omega⟩

/-- The vertices as an array of extended reals. -/
abbrev verts : Neighbours.Vertices := m ((c : Thread nD τ).loc main_arg0)

theorem vertices_block (b : Fin 4) (i : Fin 8) (q : Fin 2048) (d : Fin 3) :
    (iblk m c 0 (step b i) : Vec Ideal S1x2048x3 .f32) (ix3 0 q d) = verts m c (ix3 b q d) := by
  have h := index_vertices b i
  unfold iblk
  rw [View.read_apply]
  show V m c main_arg0 _ = m (c.tc.loc main_arg0) _
  rw [V_main_arg0]
  congr 1
  funext a
  apply Fin.ext
  match a with
  | ⟨0, _⟩ => show win0_0.index (step b i) 0 * 1 + 1 * 0 = b.val; rw [h]; simp
  | ⟨1, _⟩ => show win0_0.index (step b i) 1 * 2048 + 1 * q.val = q.val; rw [h]; simp
  | ⟨2, _⟩ => show win0_0.index (step b i) 2 * 3 + 1 * d.val = d.val; rw [h]; simp

theorem turned_eq : (V m c main_v0 : Vec Ideal S4x3x2048 .f32)
    = transpose S4x3x2048 [0, 2, 1] (verts m c) transposes_S4x2048x3_S4x3x2048_0_2_1 := by
  rfl

theorem turned_apply (b : Fin 4) (d : Fin 3) (q : Fin 2048) :
    (V m c main_v0 : Vec Ideal S4x3x2048 .f32) (ix3 b d q) = verts m c (ix3 b q d) := by
  rw [turned_eq]
  pointwise

theorem turned_block (b : Fin 4) (i : Fin 8) (d : Fin 3) (q : Fin 2048) :
    (iblk m c 1 (step b i) : Vec Ideal S1x3x2048 .f32) (ix3 0 d q) = verts m c (ix3 b q d) := by
  have h := index_turned b i
  refine Eq.trans ?_ (turned_apply m c b d q)
  unfold iblk
  rw [View.read_apply]
  show (V m c main_v0 : Vec Ideal S4x3x2048 .f32) _ = _
  congr 1
  funext a
  apply Fin.ext
  match a with
  | ⟨0, _⟩ => show win0_1.index (step b i) 0 * 1 + 1 * 0 = b.val; rw [h]; simp
  | ⟨1, _⟩ => show win0_1.index (step b i) 1 * 3 + 1 * d.val = d.val; rw [h]; simp
  | ⟨2, _⟩ => show win0_1.index (step b i) 2 * 2048 + 1 * q.val = q.val; rw [h]; simp

/-- The step's own columns. -/
theorem own_apply (b : Fin 4) (i : Fin 8) (x1 : Vec Ideal S1x3x2048 .f32) (d : Fin 3) (j : Fin 256) :
    ownCols (step b i) x1 (ix3 0 d j) = x1 (ix3 0 d (col i j)) := by
  have h := own_off b i
  show x1 _ = x1 _
  congr 1
  funext a
  apply Fin.ext
  match a with
  | ⟨0, _⟩ => show k0_off1 (grid0.coords (step b i)) 0 + 1 * 0 = 0; rw [h]; simp
  | ⟨1, _⟩ => show k0_off1 (grid0.coords (step b i)) 1 + 1 * d.val = d.val; rw [h]; simp
  | ⟨2, _⟩ => show k0_off1 (grid0.coords (step b i)) 2 + 1 * j.val = 256 * i.val + j.val; rw [h]; simp

/-- The distances the body computes of the blocks it reads. -/
theorem pay4_apply (v0 : Vec Ideal S1x2048x3 .f32) (v6 : Vec Ideal S1x3x256 .f32) (q : Fin 2048) (j : Fin 256) :
    k0_pay4 v0 v6 (ix2 q j) = ∑ d : Fin 3, v0 (ix3 0 q d) * v0 (ix3 0 q d) + ∑ d : Fin 3, v6 (ix3 0 d j) * v6 (ix3 0 d j)
      - Ideal.ofBits FTy.f32 0x40000000#32 * ∑ d : Fin 3, v0 (ix3 0 q d) * v6 (ix3 0 d j) := by
  unfold_payloads
  pointwise

/-- The block of distances of a step: row `q`, column `j`. -/
theorem dist_block (b : Fin 4) (i : Fin 8) (q : Fin 2048) (j : Fin 256) :
    (k0_pay4 (iblk m c 0 (step b i) : Vec Ideal S1x2048x3 .f32) (ownCols (step b i) (iblk m c 1 (step b i))) : FVec Ideal S2048x256 .f32) (ix2 q j)
      = Neighbours.dist (verts m c) b (col i j) q := by
  have e0 (d : Fin 3) : (iblk m c 0 (step b i) : Vec Ideal S1x2048x3 .f32) (ix3 0 q d) = verts m c (ix3 b q d) := vertices_block m c b i q d
  have e1 (d : Fin 3) : ownCols (step b i) (iblk m c 1 (step b i)) (ix3 0 d j) = verts m c (ix3 b (col i j) d) :=
    (own_apply b i _ d j).trans (turned_block m c b i d _)
  refine (pay4_apply _ _ q j).trans ?_
  unfold Neighbours.dist
  refine congrArg₂ (· - ·) ((add_comm _ _).trans (congrArg₂ (· + ·) ?_ ?_)) (congrArg (_ * ·) ?_)
  · exact Finset.sum_congr rfl fun d _ => by rw [e1 d]
  · exact Finset.sum_congr rfl fun d _ => by rw [e0 d]
  · exact Finset.sum_congr rfl fun d _ => by rw [e0 d, e1 d, mul_comm]

theorem cut_apply (t : Fin cfg0.N) (f : Vec Ideal S1x16x256 .i32) (k : Fin 16) (j : Fin 256) :
    (cfg0.win 4).cut (grid0.coords t) f (ix3 0 k j : S1x16x256.Idx) = f (ix3 0 k j) := rfl

/-- The array of indices: at place `k` of point `n` the point at place `k` of the ranking by distance. -/
theorem indices_apply (b : Fin 4) (i : Fin 8) (j : Fin 256) (k : Fin 16)
    (hv : ∀ q, Neighbours.dist (verts m c) b (col i j) q < big) :
    ((dats m 0 c).arrAt 4 cfg0.N : Vec Ideal S4x16x2048 .i32) (ix3 b k (col i j))
      = BitVec.ofNat 32 (Neighbours.nearest (verts m c) b (col i j) (k.castLE (by decide))).val := by
  have hb := congrFun (Ends.indices_block m c (step b i)) (ix3 0 k j)
  rw [View.read_apply] at hb
  have he : ((cfg0.win 4).blk (step b i)).view.emb (ix3 0 k j : S1x16x256.Idx) = (ix3 b k (col i j) : S4x16x2048.Idx) := by
    have h := index_out b i
    funext a
    apply Fin.ext
    match a with
    | ⟨0, _⟩ => show win0_4.index (step b i) 0 * 1 + 1 * 0 = b.val; rw [h]; simp
    | ⟨1, _⟩ => show win0_4.index (step b i) 1 * 16 + 1 * k.val = k.val; rw [h]; simp
    | ⟨2, _⟩ => show win0_4.index (step b i) 2 * 256 + 1 * j.val = 256 * i.val + j.val; rw [h]; simp; omega
  rw [he] at hb
  refine hb.trans ((cut_apply (step b i) _ k j).trans ?_)
  rw [block_eq]
  pointwise
  refine (rows_apply _ k j).trans ?_
  exact round_apply _ j (Neighbours.dist (verts m c) b (col i j)) (fun q => dist_block m c b i q j) hv (k.castLE (by decide))

end Cert.Kernel1Ideal.Near

end
-- ==== Proof.Kernel1Frame.lean ====
module

public import proofs.«01_k».proof.Proof.Kernel1Rounds

/-! # The first call's local frames

After the rounds the first call turns a symmetric matrix of every column by eighteen plane rotations, and with it three
columns that start as the axes; of those it takes the one of the least and the one of the greatest diagonal entry, mends
their signs, and writes the differences to the neighbours in the frame they make. Here these steps are named as vector
functions, and the body's stored block of greatest norms is told in them. -/

@[expose] public section

set_option maxRecDepth 16384

noncomputable section

namespace Cert.Kernel1Ideal.Local

open Cert.Kernel1Ideal Cert.Kernel1Ideal.Gen Idealize.ShloMosaic Idealize.ShloMosaic.TcCoe Idealize.SL.Sem

/-- One number a column. -/
abbrev Line := FVec Ideal S1x256 .f32

/-- Sixteen numbers a column. -/
abbrev Lines := FVec Ideal S16x256 .f32

/-- The same number in every column. -/
def fill (w : BitVec 32) : Line := broadcast S1x256 (Scalar.ofBits .f32 w)

/-- The same number at every neighbour of every column. -/
def fills (w : BitVec 32) : Lines := broadcast S16x256 (Scalar.ofBits .f32 w)

/-- Half the difference of two diagonal entries over the entry beside them. -/
def ratio (app aqq apq : Line) : Line := divf (subf app aqq) (mulf (fill 0x40000000#32) apq)

/-- The sign, zero of zero. -/
def signum (u : Line) : Line :=
  select (cmpf .ogt (absf u) (fill 0x00000000#32))
    (select (cmpf .olt u (constant S1x256 .f32 0x00000000#32)) (constant S1x256 .f32 0xBF800000#32) (constant S1x256 .f32 0x3F800000#32)) u

/-- The tangent that belongs to a ratio, where the entry beside the diagonal is `apq`. -/
def tangent (u apq : Line) : Line :=
  select (cmpf .oeq apq (fill 0x00000000#32)) (fill 0x00000000#32)
    (select (cmpf .oeq u (fill 0x00000000#32)) (fill 0x3F800000#32)
      (divf (signum u) (addf (absf u) (sqrt (addf (fill 0x3F800000#32) (mulf u u))))))

/-- The cosine of a tangent. -/
def cosine (t : Line) : Line := rsqrt (addf (fill 0x3F800000#32) (mulf t t))

/-- The sine of a tangent. -/
def sine (t : Line) : Line := mulf t (cosine t)

/-- The first entry of a turned pair. -/
def ahead (t x y : Line) : Line := addf (mulf (cosine t) x) (mulf (sine t) y)

/-- The second entry of a turned pair. -/
def aside (t x y : Line) : Line := addf (mulf (subf (fill 0x00000000#32) (sine t)) x) (mulf (cosine t) y)

/-- Three numbers a column. -/
structure Three where
  /-- the first -/
  x : Line
  /-- the second -/
  y : Line
  /-- the third -/
  z : Line

/-- Two triples turned, the first result. -/
def Three.ahead (t : Line) (u v : Three) : Three := ⟨Local.ahead t u.x v.x, Local.ahead t u.y v.y, Local.ahead t u.z v.z⟩

/-- Two triples turned, the second result. -/
def Three.aside (t : Line) (u v : Three) : Three := ⟨Local.aside t u.x v.x, Local.aside t u.y v.y, Local.aside t u.z v.z⟩

/-- A triple with its first and third entry turned. -/
def Three.turn02 (t : Line) (u : Three) : Three := ⟨Local.ahead t u.x u.z, u.y, Local.aside t u.x u.z⟩

/-- A triple with its second and third entry turned. -/
def Three.turn12 (t : Line) (u : Three) : Three := ⟨u.x, Local.ahead t u.y u.z, Local.aside t u.y u.z⟩

/-- A triple with its first and second entry turned. -/
def Three.turn01 (t : Line) (u : Three) : Three := ⟨Local.ahead t u.x u.y, Local.aside t u.x u.y, u.z⟩

/-- A matrix by its rows `a b c` and the three columns `k l m` turned with it. -/
structure State where
  /-- the matrix's first row -/
  a : Three
  /-- the matrix's second row -/
  b : Three
  /-- the matrix's third row -/
  c : Three
  /-- the first column -/
  k : Three
  /-- the second column -/
  l : Three
  /-- the third column -/
  m : Three

/-- The rotation of the first and the third axis. -/
def State.rot02 (s : State) : State :=
  let t := tangent (ratio s.a.x s.c.z s.a.z) s.a.z
  ⟨(Three.ahead t s.a s.c).turn02 t, s.b.turn02 t, (Three.aside t s.a s.c).turn02 t, Three.ahead t s.k s.m, s.l, Three.aside t s.k s.m⟩

/-- The rotation of the second and the third axis. -/
def State.rot12 (s : State) : State :=
  let t := tangent (ratio s.b.y s.c.z s.b.z) s.b.z
  ⟨s.a.turn12 t, (Three.ahead t s.b s.c).turn12 t, (Three.aside t s.b s.c).turn12 t, s.k, Three.ahead t s.l s.m, Three.aside t s.l s.m⟩

/-- The rotation of the first and the second axis. -/
def State.rot01 (s : State) : State :=
  let t := tangent (ratio s.a.x s.b.y s.a.y) s.a.y
  ⟨(Three.ahead t s.a s.b).turn01 t, (Three.aside t s.a s.b).turn01 t, s.c.turn01 t, Three.ahead t s.k s.l, Three.aside t s.k s.l, s.m⟩

/-- One sweep of three rotations. -/
def State.sweep (s : State) : State := s.rot02.rot12.rot01

/-- `n` sweeps. -/
def State.sweeps (s : State) : ℕ → State
  | 0 => s
  | n + 1 => (s.sweeps n).sweep

/-- A choice between triples. -/
def Three.pick (b : IVec S1x256 1) (u v : Three) : Three := ⟨select b u.x v.x, select b u.y v.y, select b u.z v.z⟩

/-- The column of the least diagonal entry. -/
def State.low (s : State) : Three :=
  Three.pick (cmpf .ole (select (cmpf .ole s.a.x s.b.y) s.a.x s.b.y) s.c.z) (Three.pick (cmpf .ole s.a.x s.b.y) s.k s.l) s.m

/-- The column of the greatest diagonal entry. -/
def State.high (s : State) : Three :=
  Three.pick (cmpf .ogt (select (cmpf .ogt s.a.x s.b.y) s.a.x s.b.y) s.c.z) (Three.pick (cmpf .ogt s.a.x s.b.y) s.k s.l) s.m

/-- A line at every neighbour. -/
def spread (u : Line) : Lines := broadcastTo S16x256 u broadcasts_S1x256_S16x256

/-- A line through the short format. -/
def short (u : Line) : Line := extf .f32 (truncf .bf16 u bitsLt_bf16_f32) bitsLt_bf16_f32

/-- Lines through the short format. -/
def shorts (u : Lines) : Lines := extf .f32 (truncf .bf16 u bitsLt_bf16_f32) bitsLt_bf16_f32

/-- The differences' components along a triple. -/
def along (p q r : Lines) (u : Three) : Lines := addf (addf (mulf p (spread u.x)) (mulf q (spread u.y))) (mulf r (spread u.z))

/-- The same in the short format. -/
def alongShort (p q r : Lines) (u : Three) : Lines := along (shorts p) (shorts q) (shorts r) ⟨short u.x, short u.y, short u.z⟩

/-- The sum over the neighbours. -/
def total (u : Lines) : Line :=
  shapeCast S1x256 (multiReduction .add [0] S256 u 0x00000000#32 reduces_S16x256_S256 (.inl rfl) rfl) shapeCasts_S256_S1x256

/-- Whether a triple's sign is to change: fewer than half of the components are at least zero. -/
def wrong (u : Lines) : IVec S1x256 1 :=
  cmpf .olt (mulf (fill 0x40000000#32) (total (sitofp .f32 (extui 32 (cmpf .oge u (fills 0x00000000#32)) natLt_1_32)))) (fill 0x41800000#32)

/-- A triple with its sign mended. -/
def Three.mend (b : IVec S1x256 1) (u : Three) : Three :=
  Three.pick b ⟨subf (fill 0x00000000#32) u.x, subf (fill 0x00000000#32) u.y, subf (fill 0x00000000#32) u.z⟩ u

/-- Components with their sign mended. -/
def mends (b : IVec S1x256 1) (u : Lines) : Lines :=
  select (broadcastTo S16x256 (shapeCast S1x256 b shapeCasts_S1x256_S1x256) broadcasts_S1x256_S16x256) (subf (fills 0x00000000#32) u) u

/-- The product of two triples. -/
def Three.cross (z x : Three) : Three :=
  ⟨subf (mulf z.y x.z) (mulf z.z x.y), subf (mulf z.z x.x) (mulf z.x x.z), subf (mulf z.x x.y) (mulf z.y x.x)⟩

/-- Where the difference to a neighbour is zero. -/
def self (p q r : Lines) : IVec S16x256 1 :=
  andi (andi (cmpf .oeq p (fills 0x00000000#32)) (cmpf .oeq q (fills 0x00000000#32))) (cmpf .oeq r (fills 0x00000000#32))

/-- The first local coordinates. -/
def localX (p q r : Lines) (s : State) : Lines :=
  select (self p q r) (fills 0x00000000#32) (mends (wrong (alongShort p q r s.high)) (alongShort p q r s.high))

/-- The third local coordinates. -/
def localZ (p q r : Lines) (s : State) : Lines :=
  select (self p q r) (fills 0x00000000#32) (mends (wrong (alongShort p q r s.low)) (alongShort p q r s.low))

/-- The second local coordinates. -/
def localY (p q r : Lines) (s : State) : Lines :=
  select (self p q r) (fills 0x00000000#32)
    (along p q r (Three.cross (s.low.mend (wrong (alongShort p q r s.low))) (s.high.mend (wrong (alongShort p q r s.high)))))

/-- The norms of the local coordinates. -/
def norms (p q r : Lines) (s : State) : Lines :=
  sqrt (addf (addf (mulf (localX p q r s) (localX p q r s)) (mulf (localY p q r s) (localY p q r s))) (mulf (localZ p q r s) (localZ p q r s)))

/-- The greatest of them. -/
def most (u : Lines) : FVec Ideal S1 .f32 :=
  multiReduction .maximumf [1, 2] S1 (shapeCast S1x16x256 u shapeCasts_S16x256_S1x16x256) 0xFF800000#32 reduces_S1x16x256_S1 (.inl rfl) rfl

/-- The weights of the neighbours. -/
def weights (p q r : Lines) : Lines :=
  let d := sqrt (maximumf (addf (addf (mulf p p) (mulf q q)) (mulf r r)) (fills 0x2B8CBCCC#32))
  maximumf (subf (spread (shapeCast S1x256 (multiReduction .maximumf [0] S256 d 0xFF800000#32 reduces_S16x256_S256 (.inl rfl) rfl) shapeCasts_S256_S1x256)) d) (fills 0x00000000#32)

/-- The weighted mean of products. -/
def mean (w u v : Lines) : Line := divf (total (mulf (shorts (mulf w u)) (shorts v))) (maximumf (total w) (fill 0x2B8CBCCC#32))

/-- The mean of the two orders of a product. -/
def both (w u v : Lines) : Line := mulf (addf (mean w u v) (mean w v u)) (fill 0x3F000000#32)

/-- The state the rotations start from. -/
def start (p q r : Lines) : State :=
  let w := weights p q r
  ⟨⟨mean w p p, both w p q, both w p r⟩, ⟨both w p q, mean w q q, both w q r⟩, ⟨both w p r, both w q r, mean w r r⟩,
   ⟨fill 0x3F800000#32, fill 0x00000000#32, fill 0x00000000#32⟩, ⟨fill 0x00000000#32, fill 0x3F800000#32, fill 0x00000000#32⟩,
   ⟨fill 0x00000000#32, fill 0x00000000#32, fill 0x3F800000#32⟩⟩

/-- The vertices at the numbers a line holds. -/
def chosen (x1 : Vec Ideal S1x3x2048 .f32) (n : IVec S1x256 32) : FVec Ideal S3x256 .f32 :=
  matmul dot_S3x2048_S2048x256_S3x256_1_0_0_1_n_n (some .fp32) (k0_pay2 x1)
    (sitofp .f32 (extui 32 (cmpi .eq Near.places (broadcastTo S2048x256 n broadcasts_S1x256_S2048x256)) natLt_1_32)) (constant S3x256 .f32 0x00000000#32)

/-- One component of the differences to the neighbours of round `k`, the component at offset `o`. -/
def gap (o : Fin 2 → ℕ) (h : S3x256.Slices o S1x256) (x1 : Vec Ideal S1x3x2048 .f32) (own : FVec Ideal S3x256 .f32) (v : FVec Ideal S2048x256 .f32) (k : Fin 16) : Line :=
  subf (extractStridedSlice S1x256 o (chosen x1 (Near.first (Near.after v k.val))) h) (extractStridedSlice S1x256 o own h)

/-- Sixteen lines, one under another. -/
def stack (g : Fin 16 → Line) : Lines :=
  concatenate S16x256 0 (List.ofFn fun k : Fin 16 => (⟨S1x256, g k⟩ : (s : Shape) × (s.Idx → EReal)))
    concatenates_S1x256_S1x256_S1x256_S1x256_S1x256_S1x256_S1x256_S1x256_S1x256_S1x256_S1x256_S1x256_S1x256_S1x256_S1x256_S1x256_S16x256_d0

/-- The greatest norm as the block that is stored. -/
def farthest (p q r : Lines) : FVec Ideal S1x1x1x128 .f32 :=
  shapeCast S1x1x1x128 (broadcast S1x128 (extractAt ![0, 0, 0] (shapeCast S1x1x1 (most (norms p q r ((start p q r).sweeps 6))) shapeCasts_S1_S1x1x1) inpos_S1x1x1_p0_0_0))
    shapeCasts_S1x128_S1x1x1x128

section block
variable (c : Dev nD) (t : Fin cfg0.N) (x0 : Vec Ideal S1x2048x3 .f32) (x1 : Vec Ideal S1x3x2048 .f32)

theorem hz4 : (![0, 0, 0, 0] : Fin 4 → Nat) = fun _ => 0 := funext fun a => by fin_cases a <;> rfl

/-- One component of the differences of a step. -/
def part (o : Fin 2 → ℕ) (h : S3x256.Slices o S1x256) : Lines :=
  stack (gap o h x1 (shapeCast S3x256 (Near.ownCols t x1) shapeCasts_S1x3x256_S3x256) (k0_pay4 x0 (Near.ownCols t x1)))

theorem block_eq : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1
    = farthest (part t x0 x1 ![0, 0] slices_S3x256_o0_0_S1x256) (part t x0 x1 ![1, 0] slices_S3x256_o1_0_S1x256) (part t x0 x1 ![2, 0] slices_S3x256_o2_0_S1x256) := by
  unfold out0_A_5
  rw [View.read_writes_eq_canon _ _ _ (cover0_A_5 c _ _ _ _ _ _ _ _ _ _ _ _ _ _ _)]
  unfold kernelRun0_A
  dsimp only
  sl_unfold_words
  rw [View.canon_unit_zero hz4]
  simp only [View.readAt_eq_ld, (hs0_0 t).read_unread, (hs0_1 t).read_unread, View.ld_unit_zero (S := S1x2048x3) Near.hz3, View.ld_unit_zero (S := S1x3x2048) Near.hz3]
  sl_kernel_rfl

end block

end Cert.Kernel1Ideal.Local

end
-- ==== Proof.Turning.lean ====
module

public import Idealize.ShloMosaic.Lib.Pointwise

/-! # Plane rotations keep three columns orthonormal

Facts of numbers: the tangent a rotation uses is a real whatever extended reals it is computed from, its cosine and sine
have squares that add up to one, a turned orthonormal triple of columns is orthonormal, and two orthonormal directions and
their product measure every vector by its length. -/

@[expose] public section

noncomputable section

namespace Cert.Turning

open Idealize.ShloMosaic

theorem minus_one : Ideal.ofBits FTy.f32 3212836864#32 = ((-1 : ℝ) : EReal) := by
  simp [Ideal.ofBits, Ideal.ieee, -EReal.coe_mul]; norm_num

/-- A real over the sum of an absolute value and a root of a number above one is a real. -/
theorem quotient_real (e : ℝ) (u : EReal) :
    ∃ t : ℝ, Ideal.div (e : EReal) (max u (-u) + Ideal.sqrt (1 + u * u)) = (t : EReal) := by
  have htop : ∃ t : ℝ, Ideal.div (e : EReal) ⊤ = (t : EReal) := ⟨0, by simp [Ideal.div]⟩
  have hone : (1 : EReal) + ⊤ = ⊤ := EReal.add_top_of_ne_bot (by rw [← EReal.coe_one]; exact EReal.coe_ne_bot 1)
  induction u with
  | bot => simpa [hone] using htop
  | top => simpa [hone] using htop
  | coe r =>
    have hd : max (r : EReal) (-(r : EReal)) + Ideal.sqrt (1 + (r : EReal) * r) = ((|r| + Real.sqrt (1 + r * r) : ℝ) : EReal) := by
      have h1 : max (r : EReal) (-(r : EReal)) = ((|r| : ℝ) : EReal) := by
        rw [← EReal.coe_neg]; exact (EReal.coe_strictMono.monotone.map_max (a := r) (b := -r)).symm
      have h2 : (1 : EReal) + (r : EReal) * r = ((1 + r * r : ℝ) : EReal) := by push_cast; rfl
      rw [h1, h2, Ideal.sqrt_coe, if_neg (by nlinarith [mul_self_nonneg r]), EReal.coe_add]
    have hp : 0 < |r| + Real.sqrt (1 + r * r) := by
      have := abs_nonneg r
      have := Real.sqrt_pos.mpr (show 0 < 1 + r * r by nlinarith [mul_self_nonneg r])
      linarith
    refine ⟨e * (|r| + Real.sqrt (1 + r * r))⁻¹, ?_⟩
    rw [hd, Ideal.div, if_neg (by exact_mod_cast hp.ne'), ← EReal.coe_inv, EReal.coe_mul]

/-- The tangent, read from the ratio `u` and the entry `a`, is a real. -/
theorem tangent_real (u a : EReal) : ∃ t : ℝ,
    (if a = 0 then (0 : EReal) else if u = 0 then 1 else
      Ideal.div (if 0 < max u (-u) then if u < 0 then Ideal.ofBits FTy.f32 3212836864#32 else 1 else u) (max u (-u) + Ideal.sqrt (1 + u * u)))
      = (t : EReal) := by
  by_cases ha : a = 0
  · exact ⟨0, by rw [if_pos ha, EReal.coe_zero]⟩
  by_cases hu : u = 0
  · exact ⟨1, by rw [if_neg ha, if_pos hu, EReal.coe_one]⟩
  have hpos : 0 < max u (-u) := by
    rcases lt_or_gt_of_ne hu with h | h
    · exact lt_max_of_lt_right (EReal.neg_pos.mpr h)
    · exact lt_max_of_lt_left h
  rw [if_neg ha, if_neg hu, if_pos hpos]
  split_ifs
  · rw [minus_one]; exact quotient_real _ u
  · rw [← EReal.coe_one]; exact quotient_real 1 u

/-- The cosine of a real tangent is a real, and with the sine its squares add up to one. -/
theorem cosine_real (t : ℝ) : ∃ c : ℝ, Ideal.rsqrt (1 + (t : EReal) * t) = (c : EReal) ∧ c * c + t * c * (t * c) = 1 := by
  have hp : 0 < 1 + t * t := by nlinarith [mul_self_nonneg t]
  refine ⟨(Real.sqrt (1 + t * t))⁻¹, ?_, ?_⟩
  · have h2 : (1 : EReal) + (t : EReal) * t = ((1 + t * t : ℝ) : EReal) := by push_cast; rfl
    rw [h2, Ideal.rsqrt_coe, if_neg hp.not_gt, if_neg hp.ne']
  · have hs : Real.sqrt (1 + t * t) * Real.sqrt (1 + t * t) = 1 + t * t := Real.mul_self_sqrt hp.le
    have hn : Real.sqrt (1 + t * t) ≠ 0 := (Real.sqrt_pos.mpr hp).ne'
    generalize Real.sqrt (1 + t * t) = w at hs hn
    field_simp
    linear_combination -hs

/-- The product of two columns. -/
def dot (p q : Fin 3 → ℝ) : ℝ := p 0 * q 0 + p 1 * q 1 + p 2 * q 2

/-- Three orthonormal columns. -/
structure Frame (p q r : Fin 3 → ℝ) : Prop where
  pp : dot p p = 1
  qq : dot q q = 1
  rr : dot r r = 1
  pq : dot p q = 0
  pr : dot p r = 0
  qr : dot q r = 0

theorem dot_comm (p q : Fin 3 → ℝ) : dot p q = dot q p := by unfold dot; ring

theorem dot_mix (c s e f : ℝ) (p q p' q' : Fin 3 → ℝ) : dot (fun d => c * p d + s * q d) (fun d => e * p' d + f * q' d)
    = c * e * dot p p' + c * f * dot p q' + s * e * dot q p' + s * f * dot q q' := by unfold dot; ring

theorem dot_mix_left (c s : ℝ) (p q r : Fin 3 → ℝ) : dot (fun d => c * p d + s * q d) r = c * dot p r + s * dot q r := by unfold dot; ring

namespace Frame

variable {p q r : Fin 3 → ℝ}

theorem swap12 (h : Frame p q r) : Frame q p r := ⟨h.qq, h.pp, h.rr, dot_comm p q ▸ h.pq, h.qr, h.pr⟩

theorem swap23 (h : Frame p q r) : Frame p r q := ⟨h.pp, h.rr, h.qq, h.pr, h.pq, dot_comm q r ▸ h.qr⟩

/-- The first two columns turned. -/
theorem turn (h : Frame p q r) (c s : ℝ) (hc : c * c + s * s = 1) :
    Frame (fun d => c * p d + s * q d) (fun d => -s * p d + c * q d) r where
  pp := by rw [dot_mix, h.pp, h.qq, h.pq, dot_comm q p, h.pq]; linear_combination hc
  qq := by rw [dot_mix, h.pp, h.qq, h.pq, dot_comm q p, h.pq]; linear_combination hc
  rr := h.rr
  pq := by rw [dot_mix, h.pp, h.qq, h.pq, dot_comm q p, h.pq]; ring
  pr := by rw [dot_mix_left, h.pr, h.qr]; ring
  qr := by rw [dot_mix_left, h.pr, h.qr]; ring

/-- The first and the last column turned. -/
theorem turn13 (h : Frame p q r) (c s : ℝ) (hc : c * c + s * s = 1) :
    Frame (fun d => c * p d + s * r d) q (fun d => -s * p d + c * r d) := (h.swap23.turn c s hc).swap23

/-- The last two columns turned. -/
theorem turn23 (h : Frame p q r) (c s : ℝ) (hc : c * c + s * s = 1) :
    Frame p (fun d => c * q d + s * r d) (fun d => -s * q d + c * r d) := (h.swap12.turn13 c s hc).swap12

/-- Columns chosen by the least and by the greatest of three numbers are different ones. -/
theorem ends (h : Frame p q r) (a b c : EReal) :
    dot (if (if a ≤ b then a else b) ≤ c then if a ≤ b then p else q else r) (if (if a ≤ b then a else b) ≤ c then if a ≤ b then p else q else r) = 1
    ∧ dot (if c < (if b < a then a else b) then if b < a then p else q else r) (if c < (if b < a then a else b) then if b < a then p else q else r) = 1
    ∧ dot (if (if a ≤ b then a else b) ≤ c then if a ≤ b then p else q else r) (if c < (if b < a then a else b) then if b < a then p else q else r) = 0 := by
  have qp := (dot_comm q p).trans h.pq
  have rp := (dot_comm r p).trans h.pr
  have rq := (dot_comm r q).trans h.qr
  have hpp := h.pp
  have hqq := h.qq
  have hrr := h.rr
  have hpq := h.pq
  have hpr := h.pr
  have hqr := h.qr
  refine ⟨?_, ?_, ?_⟩ <;> split_ifs <;> first | assumption | (exfalso; order)

end Frame

/-- The axes are orthonormal. -/
theorem axes : Frame ![1, 0, 0] ![0, 1, 0] ![0, 0, 1] := by constructor <;> simp [dot]

/-- A vector's components along two orthonormal directions and along their product have its length. -/
theorem length_split (n z x : Fin 3 → ℝ) (hz : dot z z = 1) (hx : dot x x = 1) (hzx : dot z x = 0) :
    dot n x * dot n x
      + (n 0 * (z 1 * x 2 - z 2 * x 1) + n 1 * (z 2 * x 0 - z 0 * x 2) + n 2 * (z 0 * x 1 - z 1 * x 0))
        * (n 0 * (z 1 * x 2 - z 2 * x 1) + n 1 * (z 2 * x 0 - z 0 * x 2) + n 2 * (z 0 * x 1 - z 1 * x 0))
      + dot n z * dot n z = dot n n := by
  have key : (n 0 * (z 1 * x 2 - z 2 * x 1) + n 1 * (z 2 * x 0 - z 0 * x 2) + n 2 * (z 0 * x 1 - z 1 * x 0))
        * (n 0 * (z 1 * x 2 - z 2 * x 1) + n 1 * (z 2 * x 0 - z 0 * x 2) + n 2 * (z 0 * x 1 - z 1 * x 0))
      = dot n n * (dot z z * dot x x - dot z x * dot z x) - dot n z * (dot n z * dot x x - dot z x * dot n x)
        + dot n x * (dot n z * dot z x - dot z z * dot n x) := by unfold dot; ring
  rw [key, hz, hx, hzx]
  ring

end Cert.Turning

end
-- ==== Proof.Kernel1Norms.lean ====
module

public import proofs.«01_k».proof.Proof.Kernel1Frame
public import proofs.«01_k».proof.Proof.Turning

/-! # The norms of the local coordinates

Whatever matrix the rotations start from, the columns they turn stay orthonormal in every column of the block. The local
coordinates are components along two different ones of them and along their product, so their norm is the length of the
difference they are taken of. -/

@[expose] public section

set_option maxRecDepth 16384

noncomputable section

namespace Cert.Kernel1Ideal.Local

open Cert.Kernel1Ideal Cert.Kernel1Ideal.Gen Idealize.ShloMosaic Idealize.ShloMosaic.TcCoe Idealize.SL.Sem
open Cert.Turning (dot Frame)

variable (j : Fin 256)

/-- The triple holds the reals `p` in column `j`. -/
structure Three.At (u : Three) (p : Fin 3 → ℝ) : Prop where
  x : u.x (ix2 0 j) = (p 0 : EReal)
  y : u.y (ix2 0 j) = (p 1 : EReal)
  z : u.z (ix2 0 j) = (p 2 : EReal)

theorem tangent_apply (u a : Line) : ∃ t : ℝ, tangent u a (ix2 0 j) = (t : EReal) := by
  unfold tangent signum fill
  pointwise
  exact Turning.tangent_real (u (ix2 0 j)) (a (ix2 0 j))

theorem ahead_apply (t x y : Line) : ahead t x y (ix2 0 j) = Ideal.rsqrt (1 + t (ix2 0 j) * t (ix2 0 j)) * x (ix2 0 j)
    + t (ix2 0 j) * Ideal.rsqrt (1 + t (ix2 0 j) * t (ix2 0 j)) * y (ix2 0 j) := by
  unfold ahead sine cosine fill
  pointwise

theorem aside_apply (t x y : Line) : aside t x y (ix2 0 j) = (0 - t (ix2 0 j) * Ideal.rsqrt (1 + t (ix2 0 j) * t (ix2 0 j))) * x (ix2 0 j)
    + Ideal.rsqrt (1 + t (ix2 0 j) * t (ix2 0 j)) * y (ix2 0 j) := by
  unfold aside sine cosine fill
  pointwise

/-- Two triples turned: a cosine and a sine, the same for all entries, mix them. -/
theorem turned (t : Line) (ht : ∃ r : ℝ, t (ix2 0 j) = (r : EReal)) : ∃ c s : ℝ, c * c + s * s = 1 ∧
    ∀ (u v : Three) (p q : Fin 3 → ℝ), u.At j p → v.At j q →
      (Three.ahead t u v).At j (fun d => c * p d + s * q d) ∧ (Three.aside t u v).At j (fun d => -s * p d + c * q d) := by
  obtain ⟨r, hr⟩ := ht
  obtain ⟨c, hc, h1⟩ := Turning.cosine_real r
  have ha (x y : Line) (a b : ℝ) (hx : x (ix2 0 j) = (a : EReal)) (hy : y (ix2 0 j) = (b : EReal)) :
      ahead t x y (ix2 0 j) = ((c * a + r * c * b : ℝ) : EReal) := by
    rw [ahead_apply, hr, hc, hx, hy]; push_cast; rfl
  have hb (x y : Line) (a b : ℝ) (hx : x (ix2 0 j) = (a : EReal)) (hy : y (ix2 0 j) = (b : EReal)) :
      aside t x y (ix2 0 j) = ((-(r * c) * a + c * b : ℝ) : EReal) := by
    rw [aside_apply, hr, hc, hx, hy, zero_sub]; push_cast; rfl
  exact ⟨c, r * c, h1, fun u v p q hu hv => ⟨⟨ha _ _ _ _ hu.x hv.x, ha _ _ _ _ hu.y hv.y, ha _ _ _ _ hu.z hv.z⟩,
    ⟨hb _ _ _ _ hu.x hv.x, hb _ _ _ _ hu.y hv.y, hb _ _ _ _ hu.z hv.z⟩⟩⟩

/-- The three columns are real and orthonormal. -/
def State.Upright (s : State) : Prop := ∃ p q r : Fin 3 → ℝ, s.k.At j p ∧ s.l.At j q ∧ s.m.At j r ∧ Frame p q r

variable {j}

theorem State.Upright.rot02 {s : State} (h : s.Upright j) : s.rot02.Upright j := by
  obtain ⟨p, q, r, hp, hq, hr, hf⟩ := h
  obtain ⟨c, e, hc, ht⟩ := turned j (tangent (ratio s.a.x s.c.z s.a.z) s.a.z) (tangent_apply j _ _)
  have := ht _ _ _ _ hp hr
  exact ⟨_, q, _, this.1, hq, this.2, hf.turn13 c e hc⟩

theorem State.Upright.rot12 {s : State} (h : s.Upright j) : s.rot12.Upright j := by
  obtain ⟨p, q, r, hp, hq, hr, hf⟩ := h
  obtain ⟨c, e, hc, ht⟩ := turned j (tangent (ratio s.b.y s.c.z s.b.z) s.b.z) (tangent_apply j _ _)
  have := ht _ _ _ _ hq hr
  exact ⟨p, _, _, hp, this.1, this.2, hf.turn23 c e hc⟩

theorem State.Upright.rot01 {s : State} (h : s.Upright j) : s.rot01.Upright j := by
  obtain ⟨p, q, r, hp, hq, hr, hf⟩ := h
  obtain ⟨c, e, hc, ht⟩ := turned j (tangent (ratio s.a.x s.b.y s.a.y) s.a.y) (tangent_apply j _ _)
  have := ht _ _ _ _ hp hq
  exact ⟨_, _, r, this.1, this.2, hr, hf.turn c e hc⟩

theorem State.Upright.sweeps {s : State} (h : s.Upright j) : ∀ n, (s.sweeps n).Upright j
  | 0 => h
  | n + 1 => (h.sweeps n).rot02.rot12.rot01

theorem start_upright (p q r : Lines) : (start p q r).Upright j := by
  have h1 : fill 0x3F800000#32 (ix2 0 j) = ((1 : ℝ) : EReal) := by unfold fill; pointwise; rfl
  have h0 : fill 0x00000000#32 (ix2 0 j) = ((0 : ℝ) : EReal) := by unfold fill; pointwise; rfl
  exact ⟨![1, 0, 0], ![0, 1, 0], ![0, 0, 1], ⟨h1, h0, h0⟩, ⟨h0, h1, h0⟩, ⟨h0, h0, h1⟩, Turning.axes⟩

/-- A choice between triples by a bit. -/
theorem pick_at (b : IVec S1x256 1) (u v : Three) (p q : Fin 3 → ℝ) (hu : u.At j p) (hv : v.At j q) :
    (Three.pick b u v).At j (if b (ix2 0 j) = 1#1 then p else q) := by
  have h (x y : Line) : select b x y (ix2 0 j) = if b (ix2 0 j) = 1#1 then x (ix2 0 j) else y (ix2 0 j) := rfl
  by_cases e : b (ix2 0 j) = 1#1
  · rw [if_pos e]
    exact ⟨by rw [← hu.x]; exact (h _ _).trans (if_pos e), by rw [← hu.y]; exact (h _ _).trans (if_pos e), by rw [← hu.z]; exact (h _ _).trans (if_pos e)⟩
  · rw [if_neg e]
    exact ⟨by rw [← hv.x]; exact (h _ _).trans (if_neg e), by rw [← hv.y]; exact (h _ _).trans (if_neg e), by rw [← hv.z]; exact (h _ _).trans (if_neg e)⟩

/-- The columns of the least and of the greatest diagonal entry are different ones. -/
theorem State.Upright.ends {s : State} (h : s.Upright j) : ∃ z x : Fin 3 → ℝ, s.low.At j z ∧ s.high.At j x ∧
    dot z z = 1 ∧ dot x x = 1 ∧ dot z x = 0 := by
  obtain ⟨p, q, r, hp, hq, hr, hf⟩ := h
  refine ⟨_, _, pick_at _ _ _ _ _ (pick_at _ _ _ _ _ hp hq) hr, pick_at _ _ _ _ _ (pick_at _ _ _ _ _ hp hq) hr, ?_⟩
  have ob (b : Prop) [Decidable b] : (BitVec.ofBool (decide b) = 1#1) ↔ b := by by_cases hb : b <;> simp [hb]
  pointwise
  simp only [ob]
  exact hf.ends (s.a.x (ix2 0 j)) (s.b.y (ix2 0 j)) (s.c.z (ix2 0 j))

/-- Components with their sign mended, as a factor. -/
def factor (b : BitVec 1) : ℝ := if b = 1#1 then -1 else 1

theorem factor_sq (b : BitVec 1) : factor b * factor b = 1 := by unfold factor; split_ifs <;> norm_num

theorem mended (b : BitVec 1) (x : EReal) (a : ℝ) (hx : x = (a : EReal)) : Scalar.select b (0 - x) x = ((factor b * a : ℝ) : EReal) := by
  rw [hx]
  unfold Scalar.select factor
  by_cases h : b = 1#1
  · rw [if_pos (show b = 1 from h), if_pos h, zero_sub, neg_one_mul, EReal.coe_neg]
  · rw [if_neg (show ¬ b = 1 from h), if_neg h, one_mul]

theorem mend_at (b : IVec S1x256 1) (u : Three) (p : Fin 3 → ℝ) (hu : u.At j p) : (u.mend b).At j (fun d => factor (b (ix2 0 j)) * p d) := by
  have h (x : Line) : select b (subf (fill 0x00000000#32) x) x (ix2 0 j) = Scalar.select (b (ix2 0 j)) (0 - x (ix2 0 j)) (x (ix2 0 j)) := by
    unfold fill; pointwise
  exact ⟨(h _).trans (mended _ _ _ hu.x), (h _).trans (mended _ _ _ hu.y), (h _).trans (mended _ _ _ hu.z)⟩

/-- The product of two triples. -/
theorem cross_at (u v : Three) (z x : Fin 3 → ℝ) (hu : u.At j z) (hv : v.At j x) :
    (Three.cross u v).At j ![z 1 * x 2 - z 2 * x 1, z 2 * x 0 - z 0 * x 2, z 0 * x 1 - z 1 * x 0] := by
  have h (a b c d : Line) (a' b' c' d' : ℝ) (ha : a (ix2 0 j) = (a' : EReal)) (hb : b (ix2 0 j) = (b' : EReal)) (hc : c (ix2 0 j) = (c' : EReal))
      (hd : d (ix2 0 j) = (d' : EReal)) : subf (mulf a b) (mulf c d) (ix2 0 j) = ((a' * b' - c' * d' : ℝ) : EReal) := by
    pointwise
    rw [ha, hb, hc, hd]
    push_cast
    rfl
  exact ⟨h _ _ _ _ _ _ _ _ hu.y hv.z hu.z hv.y, h _ _ _ _ _ _ _ _ hu.z hv.x hu.x hv.z, h _ _ _ _ _ _ _ _ hu.x hv.y hu.y hv.x⟩

section norms
variable (k : Fin 16) (p q r : Lines) (n : Fin 3 → ℝ) (h0 : p (ix2 k j) = (n 0 : EReal)) (h1 : q (ix2 k j) = (n 1 : EReal)) (h2 : r (ix2 k j) = (n 2 : EReal))
include h0 h1 h2

theorem along_apply (u : Three) (x : Fin 3 → ℝ) (hu : u.At j x) : along p q r u (ix2 k j) = ((dot n x : ℝ) : EReal) := by
  have h : along p q r u (ix2 k j) = p (ix2 k j) * u.x (ix2 0 j) + q (ix2 k j) * u.y (ix2 0 j) + r (ix2 k j) * u.z (ix2 0 j) := by
    unfold along spread; pointwise
  rw [h, h0, h1, h2, hu.x, hu.y, hu.z]
  unfold dot
  push_cast
  rfl

theorem alongShort_apply (u : Three) (x : Fin 3 → ℝ) (hu : u.At j x) : alongShort p q r u (ix2 k j) = ((dot n x : ℝ) : EReal) := by
  rw [← along_apply k p q r n h0 h1 h2 u x hu]
  unfold alongShort along spread short shorts
  pointwise

/-- Whether the difference is zero. -/
theorem self_apply : self p q r (ix2 k j) = 1#1 → n = fun _ => 0 := by
  have h : self p q r (ix2 k j) = IntOp.andi (IntOp.andi (BitVec.ofBool (decide (p (ix2 k j) = 0))) (BitVec.ofBool (decide (q (ix2 k j) = 0))))
      (BitVec.ofBool (decide (r (ix2 k j) = 0))) := by
    unfold self fills; pointwise
  have hb : ∀ a b c : Bool, IntOp.andi (IntOp.andi (BitVec.ofBool a) (BitVec.ofBool b)) (BitVec.ofBool c) = 1#1 → a = true ∧ b = true ∧ c = true := by decide
  intro e
  obtain ⟨ea, eb, ec⟩ := hb _ _ _ (h.symm.trans e)
  have ea := of_decide_eq_true ea
  have eb := of_decide_eq_true eb
  have ec := of_decide_eq_true ec
  rw [h0] at ea
  rw [h1] at eb
  rw [h2] at ec
  funext d
  fin_cases d
  · exact EReal.coe_eq_zero.mp ea
  · exact EReal.coe_eq_zero.mp eb
  · exact EReal.coe_eq_zero.mp ec

/-- The norm of the local coordinates is the length of the difference. -/
theorem norms_apply (s : State) (hs : s.Upright j) : norms p q r s (ix2 k j) = Ideal.sqrt ((dot n n : ℝ) : EReal) := by
  obtain ⟨z, x, hz, hx, hzz, hxx, hzx⟩ := hs.ends
  have hn : norms p q r s (ix2 k j) = Ideal.sqrt (localX p q r s (ix2 k j) * localX p q r s (ix2 k j)
      + localY p q r s (ix2 k j) * localY p q r s (ix2 k j) + localZ p q r s (ix2 k j) * localZ p q r s (ix2 k j)) := by
    unfold norms; pointwise
  have hm (b : IVec S1x256 1) (u : Lines) : select (self p q r) (fills 0x00000000#32) (mends b u) (ix2 k j)
      = if self p q r (ix2 k j) = 1#1 then 0 else Scalar.select (b (ix2 0 j)) (0 - u (ix2 k j)) (u (ix2 k j)) := by
    unfold mends fills; pointwise; rfl
  have hl (u : Lines) : select (self p q r) (fills 0x00000000#32) u (ix2 k j) = if self p q r (ix2 k j) = 1#1 then 0 else u (ix2 k j) := by
    unfold fills; pointwise; rfl
  rw [hn]
  refine congrArg Ideal.sqrt ?_
  unfold localX localY localZ
  rw [hm, hm, hl]
  by_cases e : self p q r (ix2 k j) = 1#1
  · rw [if_pos e, if_pos e, if_pos e, self_apply k p q r n h0 h1 h2 e]
    simp [dot]
  · rw [if_neg e, if_neg e, if_neg e, mended _ _ _ (alongShort_apply k p q r n h0 h1 h2 _ _ hx), mended _ _ _ (alongShort_apply k p q r n h0 h1 h2 _ _ hz)]
    have mz := mend_at (wrong (alongShort p q r s.low)) s.low z hz
    have mx := mend_at (wrong (alongShort p q r s.high)) s.high x hx
    rw [along_apply k p q r n h0 h1 h2 _ _ (cross_at _ _ _ _ mz mx)]
    have fz := factor_sq (wrong (alongShort p q r s.low) (ix2 0 j))
    have fx := factor_sq (wrong (alongShort p q r s.high) (ix2 0 j))
    generalize factor (wrong (alongShort p q r s.low) (ix2 0 j)) = f at fz ⊢
    generalize factor (wrong (alongShort p q r s.high) (ix2 0 j)) = g at fx ⊢
    simp only [← EReal.coe_mul, ← EReal.coe_add]
    refine congrArg Real.toEReal ?_
    rw [← Turning.length_split n z x hzz hxx hzx]
    simp only [dot, Matrix.cons_val]
    linear_combination (n 0 * x 0 + n 1 * x 1 + n 2 * x 2) ^ 2 * fx + (n 0 * z 0 + n 1 * z 1 + n 2 * z 2) ^ 2 * fz
      + (n 0 * (z 1 * x 2 - z 2 * x 1) + n 1 * (z 2 * x 0 - z 0 * x 2) + n 2 * (z 0 * x 1 - z 1 * x 0)) ^ 2 * (f * f * fx + fz)

end norms

end Cert.Kernel1Ideal.Local

end
-- ==== Proof.Kernel1Radius.lean ====
module

public import proofs.«01_k».proof.Proof.Kernel1Array
public import proofs.«01_k».proof.Proof.Kernel1Norms

/-! # The first program's radius

The differences of a step are those to the points at the first sixteen places of the ranking by distance, a step stores
the greatest length of them, and the program's radius is the greatest over a batch. -/

@[expose] public section

set_option maxRecDepth 16384

noncomputable section

namespace Cert.Kernel1Ideal.Local

open Cert.Kernel1Ideal Cert.Kernel1Ideal.Gen Idealize.ShloMosaic Idealize.ShloMosaic.TcCoe Idealize.SL.Sem

/-- A component of the vertices at the numbers a line holds. -/
theorem chosen_apply (x1 : Vec Ideal S1x3x2048 .f32) (n : IVec S1x256 32) (d : Fin 3) (j : Fin 256) (a : Fin 2048)
    (ha : n (ix2 0 j) = BitVec.ofNat 32 a.val) : chosen x1 n (ix2 d j) = x1 (ix3 0 d a) := by
  unfold chosen Near.places
  unfold_payloads
  pointwise
  rw [ha]
  simp only [OneHot.eqWord]
  exact OneHot.sum_pick (by norm_num) (fun i => x1 (ix3 0 d i)) a

theorem stack_apply (g : Fin 16 → Line) (k : Fin 16) (j : Fin 256) : stack g (ix2 k j) = g k (ix2 0 j) := by
  unfold stack
  refine concatenate_ofFn_unit_apply (t := S16x256) (s₁ := S1x256) (0 : Fin 2) g _ rfl rfl (ix2 k j : S16x256.Idx) k rfl (ix2 0 j) (fun b hb => ?_)
  fin_cases b
  · exact absurd rfl hb
  · rfl

theorem slice_apply (d : Fin 3) (h : S3x256.Slices ![d.val, 0] S1x256) (x : FVec Ideal S3x256 .f32) (j : Fin 256) :
    extractStridedSlice S1x256 ![d.val, 0] x h (ix2 0 j) = x (ix2 d j) := by
  unfold extractStridedSlice
  refine congrArg x (funext fun a => Fin.ext ?_)
  match a with
  | ⟨0, _⟩ => exact Nat.add_zero _
  | ⟨1, _⟩ => exact Nat.zero_add _

/-- A component of the difference to the neighbour of round `k`. -/
theorem gap_apply (d : Fin 3) (h : S3x256.Slices ![d.val, 0] S1x256) (x1 : Vec Ideal S1x3x2048 .f32) (own : FVec Ideal S3x256 .f32)
    (v : FVec Ideal S2048x256 .f32) (k : Fin 16) (j : Fin 256) (a : Fin 2048) (ha : Near.first (Near.after v k.val) (ix2 0 j) = BitVec.ofNat 32 a.val) :
    gap ![d.val, 0] h x1 own v k (ix2 0 j) = x1 (ix3 0 d a) - own (ix2 d j) := by
  have hs (x y : Line) (i : S1x256.Idx) : subf x y i = x i - y i := rfl
  unfold gap
  rw [hs, slice_apply, slice_apply, chosen_apply x1 _ d j a ha]

variable (m : (ℓ : Loc nD τ sig) → Buf (Elt Ideal) ℓ) (c : Dev nD)

theorem farthest_apply (p q r : Lines) (l : Fin 128) : farthest p q r (ix4 0 0 0 l)
    = Finset.univ.sup fun s : Fin 16 × Fin 256 => norms p q r ((start p q r).sweeps 6) (ix2 s.1 s.2) := by
  have hb : Ideal.ofBits FTy.f32 4286578688#32 = ⊥ := by simp [Ideal.ofBits, Ideal.ieee]
  unfold farthest most
  pointwise
  rw [hb]
  rfl

theorem index_norms : ∀ (b : Fin 4) (i : Fin 8), win0_5.index (Near.step b i) = ![b.val, i.val, 0, 0] := by decide +kernel

theorem cut_apply (t : Fin cfg0.N) (f : Vec Ideal S1x1x1x128 .f32) (l : Fin 128) :
    (cfg0.win 5).cut (grid0.coords t) f (ix4 0 0 0 l : S1x1x1x128.Idx) = f (ix4 0 0 0 l) := rfl

section step
variable (b : Fin 4) (i : Fin 8) (hv : ∀ n q, Neighbours.dist (Near.verts m c) b n q < Near.big)
include hv

/-- A component of the differences of a step. -/
theorem part_apply (d : Fin 3) (h : S3x256.Slices ![d.val, 0] S1x256) (k : Fin 16) (j : Fin 256) :
    part (Near.step b i) (iblk m c 0 (Near.step b i)) (iblk m c 1 (Near.step b i)) ![d.val, 0] h (ix2 k j)
      = Near.verts m c (ix3 b (Neighbours.nearest (Near.verts m c) b (Near.col i j) (k.castLE (by decide))) d) - Near.verts m c (ix3 b (Near.col i j) d) := by
  unfold part
  refine (stack_apply _ k j).trans ((gap_apply d h _ _ _ k j (Neighbours.nearest (Near.verts m c) b (Near.col i j) (k.castLE (by decide))) ?_).trans ?_)
  · exact Near.round_apply _ j (Neighbours.dist (Near.verts m c) b (Near.col i j)) (fun q => Near.dist_block m c b i q j) (hv _) (k.castLE (by decide))
  · refine congrArg₂ (· - ·) (Near.turned_block m c b i d _) ?_
    have hs (x : FVec Ideal S1x3x256 .f32) : shapeCast S3x256 x shapeCasts_S1x3x256_S3x256 (ix2 d j) = x (ix3 0 d j) := by pointwise
    exact (hs _).trans ((Near.own_apply b i _ d j).trans (Near.turned_block m c b i d _))

/-- The norms of a step are the lengths of the differences. -/
theorem norms_step (hr : ∀ n d, ∃ r : ℝ, Near.verts m c (ix3 b n d) = (r : EReal)) (s : State) (k : Fin 16) (j : Fin 256) (hs : s.Upright j) :
    norms (part (Near.step b i) (iblk m c 0 (Near.step b i)) (iblk m c 1 (Near.step b i)) ![0, 0] slices_S3x256_o0_0_S1x256)
      (part (Near.step b i) (iblk m c 0 (Near.step b i)) (iblk m c 1 (Near.step b i)) ![1, 0] slices_S3x256_o1_0_S1x256)
      (part (Near.step b i) (iblk m c 0 (Near.step b i)) (iblk m c 1 (Near.step b i)) ![2, 0] slices_S3x256_o2_0_S1x256) s (ix2 k j)
      = Neighbours.away (Near.verts m c) b (Near.col i j) k := by
  choose r hr using hr
  have hp (d : Fin 3) (h : S3x256.Slices ![d.val, 0] S1x256) := part_apply m c b i hv d h k j
  simp only [hr, ← EReal.coe_sub] at hp
  refine (norms_apply k _ _ _ (fun d => r (Neighbours.nearest (Near.verts m c) b (Near.col i j) (k.castLE (by decide))) d - r (Near.col i j) d)
    (hp 0 slices_S3x256_o0_0_S1x256) (hp 1 slices_S3x256_o1_0_S1x256) (hp 2 slices_S3x256_o2_0_S1x256) s hs).trans ?_
  unfold Neighbours.away Neighbours.apart
  refine congrArg Ideal.sqrt ?_
  simp only [hr, ← EReal.coe_sub, ← EReal.coe_mul, Fin.sum_univ_three, ← EReal.coe_add]
  rfl

/-- The array of greatest norms. -/
theorem array_apply (hr : ∀ n d, ∃ r : ℝ, Near.verts m c (ix3 b n d) = (r : EReal)) (l : Fin 128) :
    ((dats m 0 c).arrAt 5 cfg0.N : Vec Ideal S4x8x1x128 .f32) (ix4 b i 0 l)
      = Finset.univ.sup fun s : Fin 16 × Fin 256 => Neighbours.away (Near.verts m c) b (Near.col i s.2) s.1 := by
  have hb := congrFun (Ends.norms_block m c (Near.step b i)) (ix4 0 0 0 l)
  rw [View.read_apply] at hb
  have he : ((cfg0.win 5).blk (Near.step b i)).view.emb (ix4 0 0 0 l : S1x1x1x128.Idx) = (ix4 b i 0 l : S4x8x1x128.Idx) := by
    have h := index_norms b i
    funext a
    apply Fin.ext
    match a with
    | ⟨0, _⟩ => show win0_5.index (Near.step b i) 0 * 1 + 1 * 0 = b.val; rw [h]; simp
    | ⟨1, _⟩ => show win0_5.index (Near.step b i) 1 * 1 + 1 * 0 = i.val; rw [h]; simp
    | ⟨2, _⟩ => show win0_5.index (Near.step b i) 2 * 1 + 1 * 0 = 0; rw [h]; simp
    | ⟨3, _⟩ => show win0_5.index (Near.step b i) 3 * 128 + 1 * l.val = l.val; rw [h]; simp
  rw [he] at hb
  refine hb.trans ((cut_apply (Near.step b i) _ l).trans ?_)
  rw [block_eq, farthest_apply]
  exact congrArg (Finset.univ.sup) (funext fun s => norms_step m c b i hv hr _ s.1 s.2 ((start_upright _ _ _).sweeps 6))

end step

/-- The greatest over the tiles of the greatest in a tile. -/
theorem radius_sup (x : FVec Ideal S4x8x1x128 .f32) (b : Fin 4) (l : Fin 128) (f : Fin 2048 → Fin 16 → EReal)
    (hx : ∀ (i : Fin 8) (l : Fin 128), x (ix4 b i 0 l) = Finset.univ.sup fun s : Fin 16 × Fin 256 => f (Near.col i s.2) s.1) :
    Ends.radius x (ix3 b 0 l) = Finset.univ.sup fun s : Fin 2048 × Fin 16 => f s.1 s.2 := by
  have hf : Ends.radius x (ix3 b 0 l)
      = (Finset.univ.filter fun i => reducesTo_S4x8x1x128_S4_d1_2_3.drop i = (ix1 b : S4.Idx)).sup (x : S4x8x1x128.Idx → EReal) := by
    have hb : Ideal.ofBits FTy.f32 4286578688#32 = ⊥ := by simp [Ideal.ofBits, Ideal.ieee]
    unfold Ends.radius
    pointwise
    rw [hb]
    rfl
  have hd (a : Fin 4) (e : Fin 8) (o : Fin 1) (l : Fin 128) : reducesTo_S4x8x1x128_S4_d1_2_3.drop (ix4 a e o l) = (ix1 a : S4.Idx) := by
    funext k
    match k with
    | ⟨0, _⟩ => rfl
  have hi (i : S4x8x1x128.Idx) : ∃ (a : Fin 4) (e : Fin 8) (l : Fin 128), i = ix4 a e 0 l := by
    refine ⟨i 0, i 1, i 3, funext fun k => ?_⟩
    match k with
    | ⟨0, _⟩ => rfl
    | ⟨1, _⟩ => rfl
    | ⟨2, _⟩ => exact Subsingleton.elim (α := Fin 1) _ _
    | ⟨3, _⟩ => rfl
  rw [hf]
  refine le_antisymm (Finset.sup_le fun i h => ?_) (Finset.sup_le fun s _ => ?_)
  · obtain ⟨a, e, l, rfl⟩ := hi i
    have hb : a = b := congrFun ((hd a e 0 l).symm.trans (Finset.mem_filter.mp h).2) 0
    subst hb
    rw [hx]
    exact Finset.sup_le fun s _ => Finset.le_sup (f := fun s : Fin 2048 × Fin 16 => f s.1 s.2) (Finset.mem_univ (Near.col e s.2, s.1))
  · obtain ⟨n, k⟩ := s
    obtain ⟨i, j, rfl⟩ : ∃ (i : Fin 8) (j : Fin 256), n = Near.col i j :=
      ⟨⟨n.val / 256, by omega⟩, ⟨n.val % 256, Nat.mod_lt _ (by decide)⟩, Fin.ext (by show n.val = _; simp only; omega)⟩
    refine le_trans ?_ (Finset.le_sup (f := (x : S4x8x1x128.Idx → EReal))
      (Finset.mem_filter.mpr ⟨Finset.mem_univ (ix4 b i 0 0 : S4x8x1x128.Idx), hd _ _ _ _⟩))
    rw [hx]
    exact Finset.le_sup (f := fun s : Fin 16 × Fin 256 => f (Near.col i s.2) s.1) (Finset.mem_univ (k, j))

/-- The radius of a batch, in every lane, is the greatest length of a difference. -/
theorem radius_apply (b : Fin 4) (l : Fin 128) (hv : ∀ n q, Neighbours.dist (Near.verts m c) b n q < Near.big)
    (hr : ∀ n d, ∃ r : ℝ, Near.verts m c (ix3 b n d) = (r : EReal)) :
    Ends.radius ((dats m 0 c).arrAt 5 cfg0.N) (ix3 b 0 l) = Neighbours.reach (Near.verts m c) b :=
  radius_sup _ b l (Neighbours.away (Near.verts m c) b) fun i l => array_apply m c b i hv hr l

end Cert.Kernel1Ideal.Local

end
-- ==== Proof.Reference1Ranking.lean ====
module

public import proofs.«01_k».proof.Proof.Gen.Reference1Ideal.Read
public import proofs.«01_k».proof.Proof.Distances

/-! # The neighbour reference's array of indices

The reference's distances are the ones of `Neighbours.dist`, and its top-k of their negatives lists the points in the
ranking by distance. -/

@[expose] public section

set_option maxRecDepth 16384

noncomputable section

namespace Cert.Reference1Ideal.Near

open Cert.Reference1Ideal Cert.Reference1Ideal.Gen Cert.Reference1Ideal.Read Idealize.ShloMosaic

variable (x0 : Neighbours.Vertices)

theorem negated_apply (b : Fin 4) (n i : Fin 2048) :
    val_main_v11 (F := Ideal) x0 (ix3 b n i) = -(Neighbours.dist x0 b n i) := by
  pointwise [id_eq, val_main_v11, val_main_v10, val_main_v9, val_main_v8, val_main_cst_0, val_main_v7, val_main_v6, val_main_v5,
    val_main_v4, val_main_v3, val_main_v2, val_main_v1, val_main_cst, val_main_v0]
  rfl

/-- Of negated distances the greater is the nearer. -/
theorem greater_iff (x y : EReal) : (FloatOps.cmpfTotal (F := Ideal) (φ := .f32) .gt (-x) (-y) == 1#1) = decide (x < y) := by
  have h : ∀ p : Bool, (BitVec.ofBool p == 1#1) = p := by decide
  refine (h _).trans ?_
  show decide (-y < -x) = decide (x < y)
  exact decide_eq_decide.mpr EReal.neg_lt_neg_iff

/-- The last axis, along which the distances are ranked. -/
abbrev last : Fin S4x2048x2048.rank := ⟨2, by decide⟩

theorem along_last (b : Fin 4) (n q i : Fin 2048) : (ix3 b n q : S4x2048x2048.Idx).along last i = ix3 b n i := by
  funext a
  match a with
  | ⟨0, _⟩ => rfl
  | ⟨1, _⟩ => rfl
  | ⟨2, _⟩ => rfl

/-- The position that a stable sort of the line through `j`, greatest first, takes to the place `j` names. -/
def order (x : FVec Ideal S4x2048x2048 .f32) (j : S4x2048x2048.Idx) : Fin 2048 :=
  sortedFrom (n := 2048) (fun p q : Fin 2048 => FloatOps.cmpfTotal (F := Ideal) (φ := .f32) .gt (x (j.along last p)) (x (j.along last q)) == 1#1) (j last)

/-- That position as a word. -/
def placed (x : FVec Ideal S4x2048x2048 .f32) (j : S4x2048x2048.Idx) : BitVec 32 :=
  iotaInDim S4x2048x2048 32 last (j.along last (order x j))

theorem placed_apply (x : FVec Ideal S4x2048x2048 .f32) (b : Fin 4) (n q : Fin 2048) :
    placed x (ix3 b n q) = BitVec.ofNat 32 (order x (ix3 b n q)).val := by
  unfold placed
  generalize order x (ix3 b n q) = i
  rw [along_last]
  rfl

theorem topK_eq (x : FVec Ideal S4x2048x2048 .f32) : (Host.topK S4x2048x16 2 (FloatOps.cmpfTotal (F := Ideal) (φ := .f32) .gt) x sliceFits_S4x2048x2048_S4x2048x16).2
    = extractStridedSlice S4x2048x16 (fun _ => 0) (placed x) sliceFits_S4x2048x2048_S4x2048x16 := by
  unfold Host.topK Host.sort2
  simp only [show (2 : ℕ) < S4x2048x2048.rank by decide, dite_true]
  rfl

theorem slice_at (x : IVec S4x2048x2048 32) (b : Fin 4) (n : Fin 2048) (k : Fin 16) :
    extractStridedSlice S4x2048x16 (fun _ => 0) x sliceFits_S4x2048x2048_S4x2048x16 (ix3 b n k) = x (ix3 b n (k.castLE (by decide))) := by
  unfold extractStridedSlice
  refine congrArg x (funext fun a => Fin.ext ?_)
  match a with
  | ⟨0, _⟩ => exact Nat.zero_add _
  | ⟨1, _⟩ => exact Nat.zero_add _
  | ⟨2, _⟩ => exact Nat.zero_add _

theorem order_apply (b : Fin 4) (n q : Fin 2048) : order (val_main_v11 (F := Ideal) x0) (ix3 b n q) = Neighbours.nearest x0 b n q := by
  have hs : (fun p p' : Fin 2048 => FloatOps.cmpfTotal (F := Ideal) (φ := .f32) .gt
      (val_main_v11 (F := Ideal) x0 ((ix3 b n q : S4x2048x2048.Idx).along last p))
      (val_main_v11 (F := Ideal) x0 ((ix3 b n q : S4x2048x2048.Idx).along last p')) == 1#1)
      = Ranking.nearer (Neighbours.dist x0 b n) := by
    funext p p'
    rw [along_last, along_last, negated_apply, negated_apply, greater_iff]
    rfl
  have hq : (ix3 b n q : S4x2048x2048.Idx) last = q := rfl
  unfold order Neighbours.nearest Ranking.ranked
  rw [hs, hq]

theorem places_apply (b : Fin 4) (n : Fin 2048) (k : Fin 16) :
    val_main_indices (F := Ideal) x0 (ix3 b n k) = BitVec.ofNat 32 (Neighbours.nearest x0 b n (k.castLE (by decide))).val := by
  unfold val_main_indices
  rw [topK_eq, slice_at, placed_apply, order_apply]

theorem indices_apply (b : Fin 4) (n : Fin 2048) (k : Fin 16) :
    val_main_v24 (F := Ideal) x0 (ix3 b k n) = BitVec.ofNat 32 (Neighbours.nearest x0 b n (k.castLE (by decide))).val := by
  pointwise [id_eq, val_main_v24]
  exact places_apply x0 b n k

end Cert.Reference1Ideal.Near

end
-- ==== Proof.Reference1Radius.lean ====
module

public import proofs.«01_k».proof.Proof.Reference1Ranking
public import Idealize.ShloMosaic.Lib.WordCmp
public import Idealize.ShloMosaic.Lib.ValueIdxCore

/-! # The neighbour reference's radius

The reference fetches every point's neighbours, takes the lengths of the differences to them, and of these the greatest
of a batch. -/

@[expose] public section

set_option maxRecDepth 16384

noncomputable section

namespace Cert.Reference1Ideal.Near

open Cert.Reference1Ideal Cert.Reference1Ideal.Gen Cert.Reference1Ideal.Read Idealize.ShloMosaic
open Idealize.ShloMosaic.WordCmp (cmpi_slt_ofNat_eq_zero_iff toInt_eq_toNat_of_lt_half)

variable (x0 : Neighbours.Vertices) (b : Fin 4) (n : Fin 2048) (k : Fin 16)

/-- The point at place `k` of the ranking from point `n`. -/
abbrev place : Fin 2048 := Neighbours.nearest x0 b n (k.castLE (by decide))

/-- The number of a neighbour is not negative, so that the rule for negative indices leaves it. -/
theorem number_apply : val_main_v17 (F := Ideal) x0 (ix4 b n k 0) = BitVec.ofNat 32 (place x0 b n k).val := by
  have h : val_main_v17 (F := Ideal) x0 (ix4 b n k 0)
      = Scalar.select (IntOp.cmpi .slt (val_main_indices (F := Ideal) x0 (ix3 b n k)) 0#32)
        (IntOp.addi (val_main_indices (F := Ideal) x0 (ix3 b n k)) 2048#32) (val_main_indices (F := Ideal) x0 (ix3 b n k)) := by
    pointwise [val_main_v17, val_main_v16, val_main_v15, val_main_v14, val_main_v13, val_main_v12, val_main_c, val_main_c_1]
  have hp := (place x0 b n k).isLt
  rw [h, places_apply]
  exact WordCmp.select_of_eq_zero ((cmpi_slt_ofNat_eq_zero_iff (w := 32) (a := (place x0 b n k).val) (b := 0) (by omega) (by omega)).2 (by omega)) _ _

/-- The dimension numbers of the fetch: batch along, one point picked, all three coordinates. -/
abbrev pointAt := gather_S4x2048x3_S4x2048x16x1_S4x2048x16x3_3_1_0_0_1_3_113

theorem fetch_start (d : Fin 3) (c : Fin pointAt.startIndexMap.length) :
    pointAt.siIdx (ix4 b n k d) c = (ix4 b n k 0 : S4x2048x16x1.Idx) := by
  funext a
  refine Fin.ext ?_
  match a with
  | ⟨0, _⟩ => rfl
  | ⟨1, _⟩ => rfl
  | ⟨2, _⟩ => rfl
  | ⟨3, _⟩ => show c.val = 0; have : c.val < 1 := c.isLt; omega

/-- The fetched coordinates are the neighbour's. -/
theorem point_apply (d : Fin 3) : val_main_v18 (F := Ideal) x0 (ix4 b n k d) = x0 (ix3 b (place x0 b n k) d) := by
  have hw := number_apply x0 b n k
  have hk := (place x0 b n k).isLt
  generalize place x0 b n k = q at hw hk ⊢
  unfold val_main_v18 Host.gather
  refine congrArg x0 (funext fun a => Fin.ext ?_)
  have ha : a = 0 ∨ a = 1 ∨ a = 2 := by
    have := a.isLt
    change a.val < 3 at this
    rcases (show a.val = 0 ∨ a.val = 1 ∨ a.val = 2 by omega) with h | h | h
    · exact Or.inl (Fin.ext h)
    · exact Or.inr (Or.inl (Fin.ext h))
    · exact Or.inr (Or.inr (Fin.ext h))
  show pointAt.start _ _ a + pointAt.batchCoord _ a + pointAt.offCoord _ a = _
  rcases ha with rfl | rfl | rfl
  · rw [GatherDims.start_batching _ _ _ _ (by decide), GatherDims.offCoord_eq_zero _ _ _ (by decide)]
    unfold GatherDims.batchCoord
    rw [dif_pos (show (0 : Fin 3) ∈ pointAt.operandBatchingDims from by decide)]
    simp only [Nat.zero_add, Nat.add_zero]
    rfl
  · rw [GatherDims.batchCoord_eq_zero _ _ _ (by decide), GatherDims.offCoord_eq_zero _ _ _ (by decide)]
    unfold GatherDims.start
    rw [dif_pos (show (1 : Fin 3) ∈ pointAt.startIndexMap from List.mem_singleton.mpr rfl), fetch_start, hw, toInt_eq_toNat_of_lt_half (by rw [BitVec.toNat_ofNat]; omega), BitVec.toNat_ofNat]
    show min _ (2048 - 1) + 0 + 0 = q.val
    omega
  · rw [GatherDims.batchCoord_eq_zero _ _ _ (by decide)]
    unfold GatherDims.start GatherDims.offCoord
    rw [dif_neg (show ¬ (2 : Fin 3) ∈ pointAt.startIndexMap from by decide), dif_pos (show (2 : Fin 3) ∈ pointAt.sKept from by decide)]
    simp only [Nat.zero_add]
    rfl

/-- A component of the difference to a neighbour. -/
theorem difference_apply (d : Fin 3) : val_main_v21 (F := Ideal) x0 (ix4 b n k d) = x0 (ix3 b (place x0 b n k) d) - x0 (ix3 b n d) := by
  have h : val_main_v20 (F := Ideal) x0 (ix4 b n k d) = x0 (ix3 b n d) := by
    pointwise [val_main_v20, val_main_v19]
  rw [val_main_v21_apply, point_apply, h]
  rfl

/-- The length of the difference to a neighbour. -/
theorem length_apply : val_main_v22 (F := Ideal) x0 (ix3 b n k) = Neighbours.away x0 b n k := by
  have h : val_main_v22 (F := Ideal) x0 (ix3 b n k)
      = Ideal.sqrt (∑ d : Fin 3, val_main_v21 (F := Ideal) x0 (ix4 b n k d) * val_main_v21 (F := Ideal) x0 (ix4 b n k d)) := by
    pointwise [val_main_v22, val_main_call0_v1, val_main_call0_v0, val_main_call0_cst]
  rw [h]
  unfold Neighbours.away Neighbours.apart
  refine congrArg Ideal.sqrt (Finset.sum_congr rfl fun d _ => ?_)
  rw [difference_apply]

/-- The radius of a batch, in every lane. -/
theorem radius_apply (l : Fin 128) : val_main_v26 (F := Ideal) x0 (ix3 b 0 l) = Neighbours.reach x0 b := by
  have hb : Ideal.ofBits FTy.f32 4286578688#32 = ⊥ := by simp [Ideal.ofBits, Ideal.ieee]
  pointwise [val_main_v26, val_main_v25, val_main_v23, val_main_cst_2]
  rw [hb]
  exact congrArg (Finset.univ.sup) (funext fun s : Fin 2048 × Fin 16 => length_apply x0 b s.1 s.2)

end Cert.Reference1Ideal.Near

end
-- ==== Proof.NeighbourBounds.lean ====
module

public import proofs.«01_k».proof.Defs
public import proofs.«01_k».proof.Proof.Kernel1Rounds
public import proofs.«01_k».proof.Proof.Distances
public import Idealize.ShloMosaic.Lib.ReduceAll

/-! # Vertices of bounded size have distances below the masking number

The kernel takes a found neighbour out of the running by writing 3.4e38 in place of its distance, so its rounds are right
when every distance is less than that. The precondition bounds the coordinates by 1e18, which bounds the distances by
1.2e37. -/

@[expose] public section

set_option maxRecDepth 16384

noncomputable section

namespace Cert.Neighbours

open Idealize.ShloMosaic

/-- The side conditions of the printed bound test. -/
instance bound_facts : Cert.Pre_bounded.Facts where
  bcast_S_S4x2048x3 := by decide
  reducesTo_S4x2048x3_S_d0_1_2 := by decide
  h_S_ := by decide

theorem lim_le : Ideal.ofBits .f32 0x5D5E0B6B#32 ≤ ((10 ^ 18 : ℝ) : EReal) := by
  simp only [Ideal.ofBits, Ideal.ieee]
  simp [-EReal.coe_mul, -EReal.coe_pow]
  norm_num

theorem le_big : ((10 ^ 38 : ℝ) : EReal) ≤ Kernel1Ideal.Near.big := by
  unfold Kernel1Ideal.Near.big
  simp only [Ideal.ofBits, Ideal.ieee]
  simp [-EReal.coe_mul, -EReal.coe_pow]
  norm_num

theorem two_eq : Ideal.ofBits .f32 0x40000000#32 = ((2 : ℝ) : EReal) := by
  simp [Ideal.ofBits, Ideal.ieee, -EReal.coe_mul]; norm_num

/-- An extended real whose absolute value is at most a real is a real of at most that size. -/
theorem real_of_abs (x : EReal) (h : FloatOps.cmpf (F := Ideal) (φ := .f32) .ole (FloatOps.absf (F := Ideal) (φ := .f32) x) (Ideal.ofBits .f32 0x5D5E0B6B#32) = 1#1) :
    ∃ r : ℝ, x = r ∧ |r| ≤ 10 ^ 18 := by
  have of : ∀ p : Bool, BitVec.ofBool p = 1#1 → p = true := by decide
  have hle : max x (-x) ≤ Ideal.ofBits .f32 0x5D5E0B6B#32 := of_decide_eq_true (of _ h)
  have hx := (le_max_left x (-x)).trans (hle.trans lim_le)
  have hn := (le_max_right x (-x)).trans (hle.trans lim_le)
  induction x with
  | bot => exact absurd hn (by rw [EReal.neg_bot]; exact not_le.mpr (EReal.coe_lt_top _))
  | top => exact absurd hx (not_le.mpr (EReal.coe_lt_top _))
  | coe r =>
    rw [← EReal.coe_neg] at hn
    rw [EReal.coe_le_coe_iff] at hx hn
    exact ⟨r, rfl, abs_le.mpr ⟨by linarith, hx⟩⟩

/-- The precondition says of every coordinate that it is a real of size at most 1e18. -/
theorem coordinate_bound (v : Vertices) (h : Cert.Pre_bounded.fn (F := Ideal) v = fun _ => 1#1) (b : Fin 4) (n : Fin 2048) (d : Fin 3) :
    ∃ r : ℝ, v (ix3 b n d) = (r : EReal) ∧ |r| ≤ 10 ^ 18 := by
  have e := congrFun h ix0
  dsimp only [Pre_bounded.fn] at e
  haveI : Subsingleton Pre_bounded.S_.Idx := ⟨fun a b => funext fun k => k.elim0⟩
  have e' := Host.reduce_andi_all _ _ _ _ _ e (ix3 b n d)
  exact real_of_abs _ e'

/-- … so that every distance is below the masking number. -/
theorem dist_lt (v : Vertices) (h : Cert.Pre_bounded.fn (F := Ideal) v = fun _ => 1#1) (b : Fin 4) (n i : Fin 2048) :
    dist v b n i < Kernel1Ideal.Near.big := by
  choose r hr hb using coordinate_bound v h b
  unfold dist
  simp only [hr, two_eq, Fin.sum_univ_three, ← EReal.coe_mul, ← EReal.coe_add, ← EReal.coe_sub]
  refine lt_of_lt_of_le (EReal.coe_lt_coe_iff.mpr ?_) le_big
  have hs (n : Fin 2048) (d : Fin 3) : r n d * r n d ≤ 10 ^ 36 := by
    have := abs_le.mp (hb n d)
    nlinarith
  have hm (d : Fin 3) : -(r n d * r i d) ≤ 10 ^ 36 := by
    have := abs_le.mp (hb n d)
    have := abs_le.mp (hb i d)
    nlinarith [hs n d, hs i d, sq_nonneg (r n d + r i d)]
  have := hs n 0
  have := hs n 1
  have := hs n 2
  have := hs i 0
  have := hs i 1
  have := hs i 2
  have := hm 0
  have := hm 1
  have := hm 2
  norm_num at *
  linarith

end Cert.Neighbours

end
-- ==== Proof.NeighbourClaims.lean ====
module

public import proofs.«01_k».proof.Proof.Gen.Kernel1.Frame
public import proofs.«01_k».proof.Proof.Gen.Reference1Ideal.Run
public import proofs.«01_k».proof.Proof.Kernel1Radius
public import proofs.«01_k».proof.Proof.Reference1Radius
public import proofs.«01_k».proof.Proof.NeighbourBounds

/-! # The claims of the neighbour search

The first program and its reference end with equal arrays of neighbour indices and equal radii, for vertices of bounded
size. -/

@[expose] public section

set_option maxRecDepth 16384

noncomputable section

namespace Cert.Neighbours

open Idealize.ShloMosaic Idealize.ShloMosaic.TcCoe Idealize.SL.Sem

/-- The kernel's and the reference's indices agree, array against array. -/
theorem results_agree (m : (ℓ : Loc Kernel1Ideal.nD Kernel1Ideal.τ Kernel1Ideal.sig) → Buf (Elt Ideal) ℓ) (c : Dev Kernel1Ideal.nD)
    (hd : ∀ b n i, dist (Kernel1Ideal.Near.verts m c) b n i < Kernel1Ideal.Near.big) :
    Reference1Ideal.Read.val_main_v24 (F := Ideal) (Kernel1Ideal.Near.verts m c)
      = ((Kernel1Ideal.Gen.dats m 0 c).arrAt 4 Kernel1Ideal.cfg0.N : Vec Ideal Kernel1Ideal.S4x16x2048 .i32) := by
  have key : ∀ (b : Fin 4) (k : Fin 16) (n : Fin 2048),
      Reference1Ideal.Read.val_main_v24 (F := Ideal) (Kernel1Ideal.Near.verts m c) (ix3 b k n)
      = ((Kernel1Ideal.Gen.dats m 0 c).arrAt 4 Kernel1Ideal.cfg0.N : Vec Ideal Kernel1Ideal.S4x16x2048 .i32) (ix3 b k n) := by
    intro b k n
    have hn : n = Kernel1Ideal.Near.col ⟨n.val / 256, by omega⟩ ⟨n.val % 256, Nat.mod_lt _ (by decide)⟩ := Fin.ext (by show n.val = _; simp only; omega)
    rw [Reference1Ideal.Near.indices_apply, hn]
    exact (Kernel1Ideal.Near.indices_apply m c b _ _ k fun q => hd b _ q).symm
  funext i
  have hi : i = (ix3 (i 0) (i 1) (i 2) : Kernel1Ideal.S4x16x2048.Idx) := by
    funext a
    match a with
    | ⟨0, _⟩ => rfl
    | ⟨1, _⟩ => rfl
    | ⟨2, _⟩ => rfl
  rw [hi]
  exact key _ _ _

/-- The kernel's and the reference's radii agree. -/
theorem radii_agree (m : (ℓ : Loc Kernel1Ideal.nD Kernel1Ideal.τ Kernel1Ideal.sig) → Buf (Elt Ideal) ℓ) (c : Dev Kernel1Ideal.nD)
    (hd : ∀ b n i, dist (Kernel1Ideal.Near.verts m c) b n i < Kernel1Ideal.Near.big)
    (hr : ∀ b n d, ∃ r : ℝ, Kernel1Ideal.Near.verts m c (ix3 b n d) = (r : EReal)) :
    Reference1Ideal.Read.val_main_v26 (F := Ideal) (Kernel1Ideal.Near.verts m c)
      = Kernel1Ideal.Ends.radius ((Kernel1Ideal.Gen.dats m 0 c).arrAt 5 Kernel1Ideal.cfg0.N) := by
  funext i
  obtain ⟨b, l, rfl⟩ : ∃ (b : Fin 4) (l : Fin 128), i = (ix3 b 0 l : Kernel1Ideal.S4x1x128.Idx) := by
    refine ⟨i 0, i 2, funext fun a => ?_⟩
    match a with
    | ⟨0, _⟩ => rfl
    | ⟨1, _⟩ => exact Subsingleton.elim (α := Fin 1) _ _
    | ⟨2, _⟩ => rfl
  exact (Reference1Ideal.Near.radius_apply _ b l).trans (Kernel1Ideal.Local.radius_apply m c b l (hd b) (hr b)).symm

/-- The reference's frame: it declares no semaphore, and its run leaves the argument. -/
theorem frame_ref : Cert.quiescent_Reference1Ideal := fun m ρ _ =>
  (θ_run Cert.Reference1Ideal.defs _ _).mono (fun r h => ⟨fun c => (h c).2.2, Idealize.ShloMosaic.sem_eq_zero_of_no_sems (by decide) r.2⟩)
    (Cert.Reference1Ideal.Value.run (F := Ideal) m ρ)

/-- Reading a number's sign through its word and through a comparison with zero. -/
theorem preserves : Cert.preserves_Kernel1_Kernel1Ideal := IdealRules.sign_bit.statement Cert.Kernel1Ideal.S1x256 .f32

/-- From memories that agree, with coordinates bounded, both end with equal indices and equal radii. -/
theorem algebraic : Cert.algebraic_Kernel1Ideal_Reference1Ideal_pre_bounded := by
  intro m g m' g' hpre hag
  refine ⟨fun c => (Kernel1Ideal.Gen.dats m 0 c).arrAt 4 Kernel1Ideal.cfg0.N,
    fun c => Kernel1Ideal.Ends.radius ((Kernel1Ideal.Gen.dats m 0 c).arrAt 5 Kernel1Ideal.cfg0.N), Kernel1Ideal.Ends.run_results m g, ?_⟩
  refine (θ_run _ _ _).mono (fun r h c => ⟨(h c).1.trans ?_, (h c).2.1.trans ?_, (h c).2.2⟩) (Cert.Reference1Ideal.Value.run (F := Ideal) m' g')
  · have h0 := hag c
    refine (Reference1Ideal.Read.val_main_v24_eq (F := Ideal) _).trans ?_
    rw [h0]
    exact results_agree m c fun b n i => dist_lt _ (hpre c) b n i
  · have h0 := hag c
    refine (Reference1Ideal.Read.val_main_v26_eq (F := Ideal) m' c).trans ?_
    rw [h0]
    exact radii_agree m c (fun b n i => dist_lt _ (hpre c) b n i) fun b n d => (coordinate_bound _ (hpre c) b n d).imp fun r h => h.1

end Cert.Neighbours

end
-- ==== Proof.ShotBins.lean ====
module

public import Idealize.ShloMosaic.Lib.Pointwise
public import Idealize.ShloMosaic.Lib.ValueIdx

@[expose] public section

noncomputable section

/-! The SHOT descriptor of one point over the extended reals, free of arrays and programs: which of the 352 bins a
    neighbour falls in, how many neighbours a bin holds, and the bin's share of the histogram's length. -/

namespace Cert.Shot

open Idealize.ShloMosaic

/-- The whole part of `v`, held between 0 and `hi`. -/
def clipFloor (hi : BitVec 32) (v : EReal) : BitVec 32 :=
  IntOp.minsi hi (IntOp.maxsi 0#32 (FloatOps.fptosi (F := Ideal) (φ := .f32) 32 (Ideal.liftRound Int.floor v)))

/-- A number between -1 and 1, mapped onto 0 to `n`. -/
def spread (v n : EReal) : EReal :=
  (min 1 (max (Ideal.ofBits .f32 0xBF800000#32) v) + 1) * Ideal.ofBits .f32 0x3F000000#32 * n

/-- The small positive number that keeps denominators away from zero. -/
abbrev tiny : EReal := Ideal.ofBits .f32 0x2B8CBCCC#32

/-- The distance of a local offset from the origin. -/
def length3 (x y z : EReal) : EReal := Ideal.sqrt (max (x * x + y * y + z * z) tiny)

/-- The bin of a neighbour: azimuth, elevation and radius of its local offset and the cosine of its normal. -/
def flatBin (cs x y z rad : EReal) : BitVec 32 :=
  IntOp.addi (IntOp.muli (IntOp.addi (IntOp.muli (IntOp.addi (IntOp.muli
    (clipFloor 7#32 (Ideal.div (Ideal.atan2 y x + Ideal.ofBits .f32 0x40490FDB#32) (Ideal.ofBits .f32 0x40C90FDB#32) * Ideal.ofBits .f32 0x41000000#32))
    2#32) (clipFloor 1#32 (spread (Ideal.div z (length3 x y z)) (Ideal.ofBits .f32 0x40000000#32))))
    2#32) (clipFloor 1#32 (Ideal.div (length3 x y z) (max rad tiny) * Ideal.ofBits .f32 0x40000000#32)))
    11#32) (clipFloor 10#32 (spread cs (Ideal.ofBits .f32 0x41300000#32)))

/-- How many of the sixteen neighbours fall in bin `r`. -/
def count (bin : Fin 16 → BitVec 32) (r : Fin 352) : EReal :=
  ∑ k : Fin 16, if BitVec.ofNat 32 r.val = bin k then 1 else 0

/-- The bin's share: its count over the histogram's length. -/
def share (bin : Fin 16 → BitVec 32) (r : Fin 352) : EReal :=
  Ideal.div (count bin r) (max (Ideal.sqrt (∑ q : Fin 352, count bin q * count bin q)) tiny)

/-- The cosine between the normals of points `q` and `n`. -/
def cosOf (nt : FVec Ideal ⟨3, ![4, 3, 2048]⟩ .f32) (b : Fin 4) (q n : Fin 2048) : EReal :=
  ∑ d : Fin 3, nt (ix3 b d q) * nt (ix3 b d n)

/-- The bin of a point's `k`-th neighbour, which is point `q`. -/
def binOf (nt : FVec Ideal ⟨3, ![4, 3, 2048]⟩ .f32) (lc : FVec Ideal ⟨4, ![4, 3, 16, 2048]⟩ .f32) (rad : FVec Ideal ⟨3, ![4, 1, 128]⟩ .f32)
    (b : Fin 4) (n : Fin 2048) (q : Fin 16 → Fin 2048) (k : Fin 16) : BitVec 32 :=
  flatBin (cosOf nt b (q k) n) (lc (ix4 b 0 k n)) (lc (ix4 b 1 k n)) (lc (ix4 b 2 k n)) (rad (ix3 b 0 0))

end Cert.Shot

end
-- ==== Proof.Kernel2Block.lean ====
module

public import proofs.«01_k».proof.Proof.Gen.Kernel2Ideal.Value
public import proofs.«01_k».proof.Proof.OneHotWord
public import proofs.«01_k».proof.Proof.ShotBins

/-! # The second call's block

The second call's stored block, told in named vector functions: the fetched normals' cosines, the flat bins, the counts by
comparison with a column of bin numbers, and the scaling by the length. -/

@[expose] public section

set_option maxRecDepth 16384

noncomputable section

namespace Cert.Kernel2Ideal.Desc

open Cert.Kernel2Ideal Cert.Kernel2Ideal.Gen Idealize.ShloMosaic Idealize.ShloMosaic.TcCoe

/-- One hit of the histogram. -/
theorem hit_apply (flat : IVec S16x256 32) (k : ℕ) (h : S16x256.Slices ![k, 0] S1x256) (hk : k < 16)
    (hb : S1x256.Broadcasts S352x256) (hi : S352x256.Iotas .tc 32 [0]) (hl : 1 < 32) (r : Fin 352) (j : Fin 256) :
    (sitofp .f32 (extui 32 (cmpi .eq (iota .tc S352x256 32 [0] hi)
      (broadcastTo S352x256 (extractStridedSlice S1x256 ![k, 0] flat h) hb)) hl) : FVec Ideal S352x256 .f32) (ix2 r j)
    = if BitVec.ofNat 32 r.val = flat (ix2 ⟨k, hk⟩ j) then 1 else 0 := by
  pointwise
  exact OneHot.eqWord _ _

theorem picked_apply (nt : FVec Ideal S3x2048 .f32) (ix : IVec S16x256 32) (k : ℕ) (h : S16x256.Slices ![k, 0] S1x256) (hk : k < 16)
    (hb : S1x256.Broadcasts S2048x256) (hi : S2048x256.Iotas .tc 32 [0]) (hl : 1 < 32) (c : Fin 3) (j : Fin 256) (q : Fin 2048)
    (hq : ix (ix2 ⟨k, hk⟩ j) = BitVec.ofNat 32 q.val) :
    (matmul dot_S3x2048_S2048x256_S3x256_1_0_0_1_n_n (some .fp32) nt (sitofp .f32 (extui 32 (cmpi .eq (iota .tc S2048x256 32 [0] hi)
      (broadcastTo S2048x256 (extractStridedSlice S1x256 ![k, 0] ix h) hb)) hl)) (constant S3x256 .f32 0x00000000#32) : FVec Ideal S3x256 .f32) (ix2 c j)
    = nt (ix2 c q) := by
  pointwise
  simp only [OneHot.eqWord, hq]
  exact OneHot.sum_pick (by norm_num) (fun i => nt (ix2 c i)) q

/-- The column block of the normals that the points of a grid step are. -/
def ownCols (t : Fin cfg0.N) (x0 : Vec Ideal S1x3x2048 .f32) : Vec Ideal S1x3x256 .f32 :=
  View.ld x0 (Rect.unit (s := S1x3x2048) (k0_off1 (grid0.coords t)) S1x3x256.size (k0_off1_inb (grid0.coords t)))

/-- Neighbour `k`'s gathered normals. -/
def picked (nt : FVec Ideal S3x2048 .f32) (ix : IVec S16x256 32) (k : ℕ) (h : S16x256.Slices ![k, 0] S1x256) : FVec Ideal S3x256 .f32 :=
  extf .f32 (truncf .bf16 (matmul dot_S3x2048_S2048x256_S3x256_1_0_0_1_n_n (some .fp32) nt (sitofp .f32 (extui 32 (cmpi .eq (iota .tc S2048x256 32 [0] iota_S2048x256_d0_w32)
      (broadcastTo S2048x256 (extractStridedSlice S1x256 ![k, 0] ix h) broadcasts_S1x256_S2048x256)) natLt_1_32)) (constant S3x256 .f32 0x00000000#32)) bitsLt_bf16_f32) bitsLt_bf16_f32

/-- The cosines of neighbour `k`: its gathered normals against the points' own. -/
def cosRow (nt : FVec Ideal S3x2048 .f32) (ix : IVec S16x256 32) (ct : FVec Ideal S3x256 .f32) (k : ℕ) (h : S16x256.Slices ![k, 0] S1x256) : FVec Ideal S1x256 .f32 :=
  addf (addf (mulf (extractStridedSlice S1x256 ![0, 0] (picked nt ix k h) slices_S3x256_o0_0_S1x256) (extractStridedSlice S1x256 ![0, 0] ct slices_S3x256_o0_0_S1x256))
    (mulf (extractStridedSlice S1x256 ![1, 0] (picked nt ix k h) slices_S3x256_o1_0_S1x256) (extractStridedSlice S1x256 ![1, 0] ct slices_S3x256_o1_0_S1x256)))
    (mulf (extractStridedSlice S1x256 ![2, 0] (picked nt ix k h) slices_S3x256_o2_0_S1x256) (extractStridedSlice S1x256 ![2, 0] ct slices_S3x256_o2_0_S1x256))

theorem rowSlices (k : Fin 16) : S16x256.Slices ![k.val, 0] S1x256 := by
  revert k; decide

/-- The sixteen cosine rows, one below the other. -/
def cosines (nt : FVec Ideal S3x2048 .f32) (ix : IVec S16x256 32) (ct : FVec Ideal S3x256 .f32) : FVec Ideal S16x256 .f32 :=
  concatenate S16x256 0 (List.ofFn fun k : Fin 16 => (⟨S1x256, cosRow nt ix ct k.val (rowSlices k)⟩ : (s : Shape) × (s.Idx → Ideal .f32))) concatenates_S1x256_S1x256_S1x256_S1x256_S1x256_S1x256_S1x256_S1x256_S1x256_S1x256_S1x256_S1x256_S1x256_S1x256_S1x256_S1x256_S16x256_d0

/-- The cosine's bin. -/
def cosBin (cs : FVec Ideal S16x256 .f32) : IVec S16x256 32 :=
  minsi (broadcast S16x256 10#32) (maxsi (broadcast S16x256 0#32) (fptosi 32 (floor (mulf (mulf (addf
    (minimumf (broadcast S16x256 (Scalar.ofBits .f32 0x3F800000#32)) (maximumf (broadcast S16x256 (Scalar.ofBits .f32 0xBF800000#32)) cs))
    (broadcast S16x256 (Scalar.ofBits .f32 0x3F800000#32))) (broadcast S16x256 (Scalar.ofBits .f32 0x3F000000#32))) (broadcast S16x256 (Scalar.ofBits .f32 0x41300000#32))))))

/-- The flat bin of every neighbour. -/
def flatV (rad : Ideal .f32) (lx ly lz : FVec Ideal S16x256 .f32) (cs : FVec Ideal S16x256 .f32) : IVec S16x256 32 :=
  k0_pay47 rad (cosBin cs) (k0_pay43 lx ly lz) (k0_pay44 lx ly) (k0_pay45 lx ly lz) (Scalar.ofBits .f32 0x3F800000#32) k0_pay46

/-- The histogram block of the bins, normalised. -/
def normed (rad : Ideal .f32) (lx ly lz : FVec Ideal S16x256 .f32) (cs : FVec Ideal S16x256 .f32) : FVec Ideal S1x352x256 .f32 :=
  k0_pay1 (flatV rad lx ly lz cs) (iota .tc S352x256 32 [0] iota_S352x256_d0_w32)
    (k0_pay50 (flatV rad lx ly lz cs) (iota .tc S352x256 32 [0] iota_S352x256_d0_w32)
      (k0_pay48 rad (cosBin cs) (k0_pay43 lx ly lz) (k0_pay44 lx ly) (k0_pay45 lx ly lz) (Scalar.ofBits .f32 0x3F800000#32) k0_pay46)
      (k0_pay49 rad (cosBin cs) (k0_pay43 lx ly lz) (k0_pay44 lx ly) (k0_pay45 lx ly lz) (Scalar.ofBits .f32 0x3F800000#32) k0_pay46))
    (k0_pay51 (flatV rad lx ly lz cs) (iota .tc S352x256 32 [0] iota_S352x256_d0_w32))

variable (c : Dev nD) (t : Fin cfg0.N)
 (x0 : Vec Ideal S1x3x2048 .f32) (x1 : Vec Ideal S1x3x16x256 .f32) (x2 : Vec Ideal S1x16x256 .i32) (x3 : Vec Ideal S1x1x128 .f32)

theorem hz3 : (![0, 0, 0] : Fin 3 → Nat) = fun _ => 0 := funext fun a => by fin_cases a <;> rfl

theorem block_eq : out0_A_4 c (grid0.coords t) (ms0_0 t) (hs0_0 t) (ms0_1 t) (hs0_1 t) (ms0_2 t) (hs0_2 t) (ms0_3 t) (hs0_3 t) (ms0_4 t) (hs0_4 t) x0 x1 x2 x3 = normed (k0_pay7 (View.ld x3 (Rect.unit (s := S1x1x128) ![0, 0, 0] S1x1x1.size inb_S1x1x128_S1x1x1_0_0_0)))
      (k0_pay3 (View.ld x1 (Rect.unit (s := S1x3x16x256) ![0, 0, 0, 0] S1x1x16x256.size inb_S1x3x16x256_S1x1x16x256_0_0_0_0)))
      (k0_pay4 (View.ld x1 (Rect.unit (s := S1x3x16x256) ![0, 1, 0, 0] S1x1x16x256.size inb_S1x3x16x256_S1x1x16x256_0_1_0_0)))
      (k0_pay5 (View.ld x1 (Rect.unit (s := S1x3x16x256) ![0, 2, 0, 0] S1x1x16x256.size inb_S1x3x16x256_S1x1x16x256_0_2_0_0)))
      (cosines (k0_pay2 x0) (k0_pay6 x2) (k0_pay8 (ownCols t x0))) := by
  unfold out0_A_4
  rw [View.read_writes_eq_canon _ _ _ (cover0_A_4 c _ _ _ _ _ _ _ _ _ _ _ _ _ _ _)]
  unfold kernelRun0_A
  dsimp only
  sl_unfold_words
  rw [View.canon_unit_zero hz3]
  simp only [View.readAt_eq_ld, (hs0_0 t).read_unread, (hs0_1 t).read_unread, (hs0_2 t).read_unread, (hs0_3 t).read_unread, View.ld_unit_zero (S := S1x3x2048) hz3, View.ld_unit_zero (S := S1x16x256) hz3]
  rfl

theorem cosRow_apply (nt : FVec Ideal S3x2048 .f32) (ix : IVec S16x256 32) (ct : FVec Ideal S3x256 .f32) (k : Fin 16) (j : Fin 256) (q : Fin 2048)
    (hq : ix (ix2 k j) = BitVec.ofNat 32 q.val) :
    cosRow nt ix ct k.val (rowSlices k) (ix2 0 j) = ∑ c : Fin 3, nt (ix2 c q) * ct (ix2 c j) := by
  have hp (c : Fin 3) : picked nt ix k.val (rowSlices k) (ix2 c j) = nt (ix2 c q) :=
    picked_apply nt ix k.val (rowSlices k) k.isLt _ _ _ c j q hq
  unfold cosRow
  pointwise
  rw [Fin.sum_univ_three]
  simp only [← hp]

theorem cosines_apply (nt : FVec Ideal S3x2048 .f32) (ix : IVec S16x256 32) (ct : FVec Ideal S3x256 .f32) (k : Fin 16) (j : Fin 256) (q : Fin 2048)
    (hq : ix (ix2 k j) = BitVec.ofNat 32 q.val) :
    cosines nt ix ct (ix2 k j) = ∑ c : Fin 3, nt (ix2 c q) * ct (ix2 c j) := by
  unfold cosines
  refine (concatenate_ofFn_unit_apply (t := S16x256) (s₁ := S1x256) (0 : Fin 2) (fun k : Fin 16 => cosRow nt ix ct k.val (rowSlices k)) _ rfl rfl
    (ix2 k j : S16x256.Idx) k rfl (ix2 0 j) (fun b hb => ?_)).trans ?_
  · fin_cases b
    · exact absurd rfl hb
    · rfl
  exact cosRow_apply nt ix ct k j q hq

theorem flatV_apply (rad : Ideal .f32) (lx ly lz : FVec Ideal S16x256 .f32) (cs : FVec Ideal S16x256 .f32) (i : S16x256.Idx) :
    flatV rad lx ly lz cs i = Shot.flatBin (cs i) (lx i) (ly i) (lz i) rad := by
  unfold flatV cosBin
  unfold_payloads
  pointwise
  rfl

/-- The column of hits of neighbour `k`: one in the row of its bin. -/
def hits (flat : IVec S16x256 32) (k : ℕ) (h : S16x256.Slices ![k, 0] S1x256) : FVec Ideal S352x256 .f32 :=
  sitofp .f32 (extui 32 (cmpi .eq (iota .tc S352x256 32 [0] iota_S352x256_d0_w32)
      (broadcastTo S352x256 (extractStridedSlice S1x256 ![k, 0] flat h) broadcasts_S1x256_S352x256)) natLt_1_32)

/-- The histogram after the first `n` neighbours. -/
def countsTo (flat : IVec S16x256 32) : (n : ℕ) → n ≤ 16 → FVec Ideal S352x256 .f32
  | 0, _ => broadcast S352x256 (Scalar.ofBits .f32 0x00000000#32)
  | n + 1, h => addf (countsTo flat n (Nat.le_of_succ_le h)) (hits flat n (rowSlices ⟨n, h⟩))

theorem countsTo_apply (flat : IVec S16x256 32) (r : Fin 352) (j : Fin 256) : ∀ (n : ℕ) (h : n ≤ 16),
    countsTo flat n h (ix2 r j) = ∑ k : Fin n, if BitVec.ofNat 32 r.val = flat (ix2 (k.castLE h) j) then 1 else 0
  | 0, _ => by
    unfold countsTo
    pointwise
    simp
  | n + 1, h => by
    have hh := hit_apply flat n (rowSlices ⟨n, h⟩) h broadcasts_S1x256_S352x256 iota_S352x256_d0_w32 natLt_1_32 r j
    rw [Fin.sum_univ_castSucc]
    unfold countsTo
    rw [addf_apply, countsTo_apply flat r j n]
    exact congrArg₂ (· + ·) rfl hh

/-- The histogram divided by its length, column by column. -/
def scaled (a : FVec Ideal S352x256 .f32) : FVec Ideal S352x256 .f32 :=
  divf a (broadcastTo S352x256 (maximumf (sqrt (shapeCast S1x256
    (multiReduction .add [0] S256 (mulf a a) 0x00000000#32 reduces_S352x256_S256 (.inl rfl) rfl) shapeCasts_S256_S1x256))
    (broadcast S1x256 (Scalar.ofBits .f32 0x2B8CBCCC#32))) broadcasts_S1x256_S352x256)

theorem scaled_apply (a : FVec Ideal S352x256 .f32) (r : Fin 352) (j : Fin 256) :
    scaled a (ix2 r j) = Ideal.div (a (ix2 r j)) (max (Ideal.sqrt (∑ q : Fin 352, a (ix2 q j) * a (ix2 q j))) Shot.tiny) := by
  unfold scaled
  pointwise

theorem normed_eq (rad : Ideal .f32) (lx ly lz : FVec Ideal S16x256 .f32) (cs : FVec Ideal S16x256 .f32) :
    normed rad lx ly lz cs = shapeCast S1x352x256 (scaled (countsTo (flatV rad lx ly lz cs) 16 le_rfl)) shapeCasts_S352x256_S1x352x256 := rfl

theorem normed_apply (rad : Ideal .f32) (lx ly lz : FVec Ideal S16x256 .f32) (cs : FVec Ideal S16x256 .f32) (r : Fin 352) (j : Fin 256) :
    normed rad lx ly lz cs (ix3 0 r j)
      = Shot.share (fun k => Shot.flatBin (cs (ix2 k j)) (lx (ix2 k j)) (ly (ix2 k j)) (lz (ix2 k j)) rad) r := by
  have hc (q : Fin 352) : countsTo (flatV rad lx ly lz cs) 16 le_rfl (ix2 q j)
      = Shot.count (fun k => Shot.flatBin (cs (ix2 k j)) (lx (ix2 k j)) (ly (ix2 k j)) (lz (ix2 k j)) rad) q := by
    rw [countsTo_apply]
    simp only [flatV_apply]
    rfl
  rw [normed_eq]
  pointwise
  rw [scaled_apply]
  simp only [hc, Shot.share]

end Cert.Kernel2Ideal.Desc
-- ==== Proof.Kernel2Array.lean ====
module

public import proofs.«01_k».proof.Proof.Kernel2Block

/-! # The second call's array of descriptors

What the blocks of the second call hold in terms of its arguments, and from that the array of descriptors it leaves. -/

@[expose] public section

set_option maxRecDepth 16384

noncomputable section

namespace Cert.Kernel2Ideal.Desc

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The grid step of batch `b` and column tile `i`. -/
def step (b : Fin 4) (i : Fin 8) : Fin cfg0.N := ⟨8 * b.val + i.val, by have : cfg0.N = 32 := N_0; omega⟩

theorem index_out : ∀ (b : Fin 4) (i : Fin 8), win0_4.index (step b i) = ![b.val, 0, i.val] := by decide +kernel
theorem index_normals : ∀ (b : Fin 4) (i : Fin 8), win0_0.index (step b i) = ![b.val, 0, 0] := by decide +kernel
theorem index_local : ∀ (b : Fin 4) (i : Fin 8), win0_1.index (step b i) = ![b.val, 0, 0, i.val] := by decide +kernel
theorem index_idx : ∀ (b : Fin 4) (i : Fin 8), win0_2.index (step b i) = ![b.val, 0, i.val] := by decide +kernel
theorem index_rad : ∀ (b : Fin 4) (i : Fin 8), win0_3.index (step b i) = ![b.val, 0, 0] := by decide +kernel
theorem own_off : ∀ (b : Fin 4) (i : Fin 8), k0_off1 (grid0.coords (step b i)) = ![0, 0, 256 * i.val] := by decide +kernel

/-- Column `j` of tile `i`. -/
abbrev col (i : Fin 8) (j : Fin 256) : Fin 2048 := ⟨256 * i.val + j.val, by omega⟩

theorem normals_block (b : Fin 4) (i : Fin 8) (d : Fin 3) (q : Fin 2048) :
    (iblk m c 0 (step b i) : Vec Ideal S1x3x2048 .f32) (ix3 0 d q) = m ((c : Thread nD τ).loc main_arg0) (ix3 b d q) := by
  have h := index_normals b i
  unfold iblk
  rw [View.read_apply]
  show V m c main_arg0 _ = m (c.tc.loc main_arg0) _
  rw [V_main_arg0]
  congr 1
  funext a
  apply Fin.ext
  match a with
  | ⟨0, _⟩ => show win0_0.index (step b i) 0 * 1 + 1 * 0 = b.val; rw [h]; simp
  | ⟨1, _⟩ => show win0_0.index (step b i) 1 * 3 + 1 * d.val = d.val; rw [h]; simp
  | ⟨2, _⟩ => show win0_0.index (step b i) 2 * 2048 + 1 * q.val = q.val; rw [h]; simp

theorem local_block (b : Fin 4) (i : Fin 8) (d : Fin 3) (k : Fin 16) (j : Fin 256) :
    (iblk m c 1 (step b i) : Vec Ideal S1x3x16x256 .f32) (ix4 0 d k j) = m ((c : Thread nD τ).loc main_arg1) (ix4 b d k (col i j)) := by
  have h := index_local b i
  unfold iblk
  rw [View.read_apply]
  show V m c main_arg1 _ = m (c.tc.loc main_arg1) _
  rw [V_main_arg1]
  congr 1
  funext a
  apply Fin.ext
  match a with
  | ⟨0, _⟩ => show win0_1.index (step b i) 0 * 1 + 1 * 0 = b.val; rw [h]; simp
  | ⟨1, _⟩ => show win0_1.index (step b i) 1 * 3 + 1 * d.val = d.val; rw [h]; simp
  | ⟨2, _⟩ => show win0_1.index (step b i) 2 * 16 + 1 * k.val = k.val; rw [h]; simp
  | ⟨3, _⟩ => show win0_1.index (step b i) 3 * 256 + 1 * j.val = 256 * i.val + j.val; rw [h]; simp; omega

theorem idx_block (b : Fin 4) (i : Fin 8) (k : Fin 16) (j : Fin 256) :
    (iblk m c 2 (step b i) : Vec Ideal S1x16x256 .i32) (ix3 0 k j) = m ((c : Thread nD τ).loc main_arg2) (ix3 b k (col i j)) := by
  have h := index_idx b i
  unfold iblk
  rw [View.read_apply]
  show V m c main_arg2 _ = m (c.tc.loc main_arg2) _
  rw [V_main_arg2]
  congr 1
  funext a
  apply Fin.ext
  match a with
  | ⟨0, _⟩ => show win0_2.index (step b i) 0 * 1 + 1 * 0 = b.val; rw [h]; simp
  | ⟨1, _⟩ => show win0_2.index (step b i) 1 * 16 + 1 * k.val = k.val; rw [h]; simp
  | ⟨2, _⟩ => show win0_2.index (step b i) 2 * 256 + 1 * j.val = 256 * i.val + j.val; rw [h]; simp; omega

theorem rad_block (b : Fin 4) (i : Fin 8) (l : Fin 128) :
    (iblk m c 3 (step b i) : Vec Ideal S1x1x128 .f32) (ix3 0 0 l) = m ((c : Thread nD τ).loc main_arg3) (ix3 b 0 l) := by
  have h := index_rad b i
  unfold iblk
  rw [View.read_apply]
  show V m c main_arg3 _ = m (c.tc.loc main_arg3) _
  rw [V_main_arg3]
  congr 1
  funext a
  apply Fin.ext
  match a with
  | ⟨0, _⟩ => show win0_3.index (step b i) 0 * 1 + 1 * 0 = b.val; rw [h]; simp
  | ⟨1, _⟩ => show win0_3.index (step b i) 1 * 1 + 1 * 0 = 0; rw [h]; simp
  | ⟨2, _⟩ => show win0_3.index (step b i) 2 * 128 + 1 * l.val = l.val; rw [h]; simp

/-- The step's own columns of the normals. -/
theorem own_apply (b : Fin 4) (i : Fin 8) (x0 : Vec Ideal S1x3x2048 .f32) (d : Fin 3) (j : Fin 256) :
    ownCols (step b i) x0 (ix3 0 d j) = x0 (ix3 0 d (col i j)) := by
  have h := own_off b i
  show x0 _ = x0 _
  congr 1
  funext a
  apply Fin.ext
  match a with
  | ⟨0, _⟩ => show k0_off1 (grid0.coords (step b i)) 0 + 1 * 0 = 0; rw [h]; simp
  | ⟨1, _⟩ => show k0_off1 (grid0.coords (step b i)) 1 + 1 * d.val = d.val; rw [h]; simp
  | ⟨2, _⟩ => show k0_off1 (grid0.coords (step b i)) 2 + 1 * j.val = 256 * i.val + j.val; rw [h]; simp

/-- The arguments, as arrays of extended reals and words. -/
abbrev normalsOf : FVec Ideal S4x3x2048 .f32 := m ((c : Thread nD τ).loc main_arg0)
abbrev localOf : FVec Ideal S4x3x16x2048 .f32 := m ((c : Thread nD τ).loc main_arg1)
abbrev idxOf : IVec S4x16x2048 32 := m ((c : Thread nD τ).loc main_arg2)
abbrev radOf : FVec Ideal S4x1x128 .f32 := m ((c : Thread nD τ).loc main_arg3)

theorem cut_apply (t : Fin cfg0.N) (f : Vec Ideal S1x352x256 .f32) (r : Fin 352) (j : Fin 256) :
    (cfg0.win 4).cut (grid0.coords t) f (ix3 0 r j : S1x352x256.Idx) = f (ix3 0 r j) := rfl

/-- What a step's body leaves at bin `r` of its column `j`, of the blocks it reads. -/
theorem block_apply (b : Fin 4) (i : Fin 8) (x0 : Vec Ideal S1x3x2048 .f32) (x1 : Vec Ideal S1x3x16x256 .f32) (x2 : Vec Ideal S1x16x256 .i32)
    (x3 : Vec Ideal S1x1x128 .f32) (r : Fin 352) (j : Fin 256) (q : Fin 16 → Fin 2048)
    (hq : ∀ k, x2 (ix3 0 k j) = BitVec.ofNat 32 (q k).val) :
    out0_A_4 c (grid0.coords (step b i)) (ms0_0 (step b i)) (hs0_0 (step b i)) (ms0_1 (step b i)) (hs0_1 (step b i)) (ms0_2 (step b i)) (hs0_2 (step b i)) (ms0_3 (step b i)) (hs0_3 (step b i)) (ms0_4 (step b i)) (hs0_4 (step b i)) x0 x1 x2 x3 (ix3 0 r j)
      = Shot.share (fun k => Shot.flatBin (∑ d : Fin 3, x0 (ix3 0 d (q k)) * x0 (ix3 0 d (col i j)))
          (x1 (ix4 0 0 k j)) (x1 (ix4 0 1 k j)) (x1 (ix4 0 2 k j)) (x3 (ix3 0 0 0))) r := by
  rw [block_eq]
  refine (normed_apply _ _ _ _ _ r j).trans (congrArg (Shot.share · r) (funext fun k => ?_))
  rw [cosines_apply _ _ _ k j (q k) (by unfold_payloads; pointwise; exact hq k)]
  unfold_payloads
  pointwise
  simp only [own_apply]

/-- The result array: at bin `r` of point `n` the bin's share of the point's histogram. -/
theorem result_apply (b : Fin 4) (i : Fin 8) (j : Fin 256) (r : Fin 352) (q : Fin 16 → Fin 2048)
    (hq : ∀ k, idxOf m c (ix3 b k (col i j)) = BitVec.ofNat 32 (q k).val) :
    ((dats m 0 c).arrAt 4 cfg0.N : Vec Ideal S4x352x2048 .f32) (ix3 b r (col i j)) = Shot.share (Shot.binOf (normalsOf m c) (localOf m c) (radOf m c) b (col i j) q) r := by
  have hb := congrFun (Value.blocks4 m c (step b i) (flush0_4 _)) (ix3 0 r j)
  rw [View.read_apply] at hb
  have he : ((cfg0.win 4).blk (step b i)).view.emb (ix3 0 r j : S1x352x256.Idx) = (ix3 b r (col i j) : S4x352x2048.Idx) := by
    have h := index_out b i
    funext a
    apply Fin.ext
    match a with
    | ⟨0, _⟩ => show win0_4.index (step b i) 0 * 1 + 1 * 0 = b.val; rw [h]; simp
    | ⟨1, _⟩ => show win0_4.index (step b i) 1 * 352 + 1 * r.val = r.val; rw [h]; simp
    | ⟨2, _⟩ => show win0_4.index (step b i) 2 * 256 + 1 * j.val = 256 * i.val + j.val; rw [h]; simp; omega
  rw [he] at hb
  rw [Value.flushed4_A m c (step b i)] at hb
  refine hb.trans ((cut_apply (step b i) _ r j).trans ((block_apply c b i _ _ _ _ r j q fun k => (idx_block m c b i k j).trans (hq k)).trans ?_))
  simp only [normals_block, local_block, rad_block]
  rfl

end Cert.Kernel2Ideal.Desc

end
-- ==== Proof.Reference2Bins.lean ====
module

public import proofs.«01_k».proof.Proof.Gen.Reference2Ideal.Read
public import proofs.«01_k».proof.Proof.ShotBins
public import Idealize.ShloMosaic.Lib.WordCmp
public import Idealize.ShloMosaic.Lib.ValueIdxCore

@[expose] public section

set_option maxRecDepth 16384

noncomputable section

/-! The reference descriptor, first half: the normal fetched for each neighbour, the cosine with the point's own normal, and
    the bin every neighbour is sent to. -/

namespace Cert.Reference2Ideal.Desc

open Cert.Reference2Ideal Cert.Reference2Ideal.Read Cert.Reference2Ideal.Gen Idealize.ShloMosaic
open Idealize.ShloMosaic.WordCmp (cmpi_slt_ofNat_eq_zero_iff toInt_eq_toNat_of_lt_half)

/-- An index below 2^31 is not moved by the rule for negative indices. -/
theorem keep_index (p : ℕ) (hp : p < 2 ^ 31) (w : BitVec 32) :
    Scalar.select (IntOp.cmpi .slt (BitVec.ofNat 32 p) 0#32) w (BitVec.ofNat 32 p) = BitVec.ofNat 32 p :=
  WordCmp.select_of_eq_zero ((cmpi_slt_ofNat_eq_zero_iff (w := 32) (a := p) (b := 0) (by omega) (by omega)).2 (by omega)) _ _

variable (x0 : FVec Ideal S4x3x2048 .f32) (x1 : FVec Ideal S4x3x16x2048 .f32) (x2 : IVec S4x16x2048 32) (x3 : FVec Ideal S4x1x128 .f32)
variable (b : Fin 4) (n : Fin 2048) (q : Fin 16 → Fin 2048)

/-- The index of the `k`-th neighbour, after the rule for negative indices. -/
theorem neighbour_apply (hq : ∀ k, x2 (ix3 b k n) = BitVec.ofNat 32 (q k).val) (k : Fin 16) :
    val_main_v10 (F := Ideal) x2 (ix4 b n k 0) = BitVec.ofNat 32 (q k).val := by
  have h : val_main_v10 (F := Ideal) x2 (ix4 b n k 0)
      = Scalar.select (IntOp.cmpi .slt (x2 (ix3 b k n)) 0#32) (IntOp.addi (x2 (ix3 b k n)) 2048#32) (x2 (ix3 b k n)) := by
    pointwise [val_main_v10, val_main_v9, val_main_v8, val_main_v7, val_main_v6, val_main_v5, val_main_v2, val_main_c, val_main_c_0]
  rw [h, hq k]
  exact keep_index _ (by have := (q k).isLt; omega) _

/-- The dimension numbers of the fetch: batch along, one row picked, all three components. -/
abbrev normalAt := gather_S4x2048x3_S4x2048x16x1_S4x2048x16x3_3_1_0_0_1_3_113

/-- Where the gather reads its start index. -/
theorem gather_start (k : Fin 16) (d : Fin 3) (c : Fin normalAt.startIndexMap.length) :
    normalAt.siIdx (ix4 b n k d) c = (ix4 b n k 0 : S4x2048x16x1.Idx) := by
  funext a
  refine Fin.ext ?_
  match a with
  | ⟨0, _⟩ => rfl
  | ⟨1, _⟩ => rfl
  | ⟨2, _⟩ => rfl
  | ⟨3, _⟩ => show c.val = 0; have : c.val < 1 := c.isLt; omega

/-- The gathered normal of the `k`-th neighbour is that point's normal. -/
theorem fetched_apply (hq : ∀ k, x2 (ix3 b k n) = BitVec.ofNat 32 (q k).val) (k : Fin 16) (d : Fin 3) :
    val_main_v11 (F := Ideal) x0 x2 (ix4 b n k d) = x0 (ix3 b d (q k)) := by
  have hv : val_main_v0 (F := Ideal) x0 (ix3 b (q k) d) = x0 (ix3 b d (q k)) := by
    pointwise [val_main_v0]
  rw [← hv]
  unfold val_main_v11 Host.gather
  refine congrArg (val_main_v0 (F := Ideal) x0) (funext fun a => Fin.ext ?_)
  have hk := (q k).isLt
  have ha : a = 0 ∨ a = 1 ∨ a = 2 := by
    have := a.isLt
    change a.val < 3 at this
    rcases (show a.val = 0 ∨ a.val = 1 ∨ a.val = 2 by omega) with h | h | h
    · exact Or.inl (Fin.ext h)
    · exact Or.inr (Or.inl (Fin.ext h))
    · exact Or.inr (Or.inr (Fin.ext h))
  show normalAt.start _ _ a + normalAt.batchCoord _ a + normalAt.offCoord _ a = _
  rcases ha with rfl | rfl | rfl
  · rw [GatherDims.start_batching _ _ _ _ (by decide), GatherDims.offCoord_eq_zero _ _ _ (by decide)]
    unfold GatherDims.batchCoord
    rw [dif_pos (show (0 : Fin 3) ∈ normalAt.operandBatchingDims from by decide)]
    simp only [Nat.zero_add, Nat.add_zero]
    rfl
  · rw [GatherDims.batchCoord_eq_zero _ _ _ (by decide), GatherDims.offCoord_eq_zero _ _ _ (by decide)]
    unfold GatherDims.start
    rw [dif_pos (show (1 : Fin 3) ∈ normalAt.startIndexMap from List.mem_singleton.mpr rfl), gather_start, neighbour_apply x2 b n q hq, toInt_eq_toNat_of_lt_half (by rw [BitVec.toNat_ofNat]; omega), BitVec.toNat_ofNat]
    show min _ (2048 - 1) + 0 + 0 = (q k).val
    omega
  · rw [GatherDims.batchCoord_eq_zero _ _ _ (by decide)]
    unfold GatherDims.start GatherDims.offCoord
    rw [dif_neg (show ¬ (2 : Fin 3) ∈ normalAt.startIndexMap from by decide), dif_pos (show (2 : Fin 3) ∈ normalAt.sKept from by decide)]
    simp only [Nat.zero_add]
    rfl

/-- The cosine of the `k`-th neighbour. -/
theorem cosine_apply (hq : ∀ k, x2 (ix3 b k n) = BitVec.ofNat 32 (q k).val) (k : Fin 16) :
    val_main_v12 (F := Ideal) x0 x2 (ix3 b n k) = Shot.cosOf x0 b (q k) n := by
  rw [val_main_v12_apply]
  unfold Shot.cosOf
  refine Finset.sum_congr rfl fun d _ => ?_
  have h1 : lidx_main_v12 (ix3 b n k) d = (ix4 b n k d : S4x2048x16x3.Idx) := by
    funext a; match a with
    | ⟨0, _⟩ => rfl
    | ⟨1, _⟩ => rfl
    | ⟨2, _⟩ => rfl
    | ⟨3, _⟩ => rfl
  have h2 : ridx_main_v12 (ix3 b n k) d = (ix3 b n d : S4x2048x3.Idx) := by
    funext a; match a with
    | ⟨0, _⟩ => rfl
    | ⟨1, _⟩ => rfl
    | ⟨2, _⟩ => rfl
  rw [h1, h2, fetched_apply x0 x2 b n q hq]
  have hv : val_main_v0 (F := Ideal) x0 (ix3 b n d) = x0 (ix3 b d n) := by
    pointwise [val_main_v0]
  rw [hv]

/-- The bin of the `k`-th neighbour among the eleven of its cosine. -/
theorem cosineBin_apply (k : Fin 16) :
    val_main_v22 (F := Ideal) x0 x2 (ix3 b n k)
      = Shot.clipFloor 10#32 (Shot.spread (val_main_v12 (F := Ideal) x0 x2 (ix3 b n k)) (Ideal.ofBits .f32 0x41300000#32)) := by
  unfold Shot.clipFloor Shot.spread
  pointwise [id_eq, val_main_v22, val_main_call1_v4, val_main_call1_v3, val_main_call1_v2, val_main_call1_v1, val_main_call1_v0, val_main_c_5, val_main_c_6,
    val_main_v21, val_main_v20, val_main_v19, val_main_v18, val_main_cst_4, val_main_v17, val_main_v16, val_main_cst_3, val_main_v15, val_main_v14,
    val_main_cst_2, val_main_v13, val_main_call0_v4, val_main_call0_v3, val_main_call0_v2, val_main_call0_v1, val_main_call0_v0, val_main_cst, val_main_cst_1]

/-- The coarse bin of the `k`-th neighbour: azimuth, elevation and radius, times the eleven cosine bins. -/
theorem coarse_apply (k : Fin 16) (w : BitVec 32) (cs : EReal) (hw : Shot.clipFloor 10#32 (Shot.spread cs (Ideal.ofBits .f32 0x41300000#32)) = w) :
    IntOp.addi (val_main_v75 (F := Ideal) x1 x3 (ix3 b n k)) w
      = Shot.flatBin cs (x1 (ix4 b 0 k n)) (x1 (ix4 b 1 k n)) (x1 (ix4 b 2 k n)) (x3 (ix3 b 0 0)) := by
  unfold Shot.flatBin
  rw [hw]
  refine congrArg (IntOp.addi · w) ?_
  unfold Shot.clipFloor Shot.spread Shot.length3 Shot.tiny
  pointwise [id_eq, val_main_v1, val_main_v3, val_main_v4, val_main_v23, val_main_v24, val_main_v25, val_main_v26, val_main_v27, val_main_v28, val_main_v29, val_main_v30, val_main_v31,
    val_main_v32, val_main_v33, val_main_cst_7, val_main_v34, val_main_v35, val_main_v36, val_main_v37, val_main_cst_8, val_main_v38, val_main_v39,
    val_main_cst_9, val_main_v40, val_main_v41, val_main_cst_10, val_main_v42, val_main_v43, val_main_v44, val_main_v45, val_main_c_11, val_main_c_12,
    val_main_call2_v0, val_main_call2_v1, val_main_call2_v2, val_main_call2_v3, val_main_call2_v4, val_main_v46, val_main_v47, val_main_cst_13,
    val_main_cst_14, val_main_call3_v0, val_main_call3_v1, val_main_call3_v2, val_main_call3_v3, val_main_call3_v4, val_main_v48, val_main_cst_15,
    val_main_v49, val_main_v50, val_main_cst_16, val_main_v51, val_main_v52, val_main_cst_17, val_main_v53, val_main_v54, val_main_v55, val_main_v56,
    val_main_c_18, val_main_c_19, val_main_call4_v0, val_main_call4_v1, val_main_call4_v2, val_main_call4_v3, val_main_call4_v4, val_main_v57,
    val_main_cst_20, val_main_v58, val_main_v59, val_main_v60, val_main_v61, val_main_v62, val_main_cst_21, val_main_v63, val_main_v64, val_main_v65,
    val_main_v66, val_main_c_22, val_main_c_23, val_main_call5_v0, val_main_call5_v1, val_main_call5_v2, val_main_call5_v3, val_main_call5_v4,
    val_main_v67, val_main_c_24, val_main_v68, val_main_v69, val_main_v70, val_main_c_25, val_main_v71, val_main_v72, val_main_v73, val_main_c_26,
    val_main_v74, val_main_v75]

/-- The full bin of the `k`-th neighbour. -/
theorem bin_apply (hq : ∀ k, x2 (ix3 b k n) = BitVec.ofNat 32 (q k).val) (k : Fin 16) :
    val_main_v76 (F := Ideal) x0 x1 x2 x3 (ix3 b n k) = Shot.binOf x0 x1 x3 b n q k := by
  rw [val_main_v76_apply, cosineBin_apply, cosine_apply x0 x2 b n q hq]
  exact coarse_apply x1 x3 b n k _ _ rfl

end Cert.Reference2Ideal.Desc

end
-- ==== Proof.ShotRange.lean ====
module

public import proofs.«01_k».proof.Proof.ShotBins

@[expose] public section

noncomputable section

/-! A neighbour's bin is always one of the 352. -/

namespace Cert.Shot

open Idealize.ShloMosaic

/-- A word held between 0 and `hi` is at most `hi`. -/
theorem clip_le (hi w : BitVec 32) (h : hi.toNat < 2 ^ 31) : (IntOp.minsi hi (IntOp.maxsi 0#32 w)).toNat ≤ hi.toNat := by
  have e : (hi.toInt : ℤ) = hi.toNat := by rw [BitVec.toInt_eq_toNat_cond]; omega
  have ew := BitVec.toInt_eq_toNat_cond w
  have lw := w.isLt
  unfold IntOp.minsi IntOp.maxsi
  simp only [BitVec.slt, BitVec.sle, decide_eq_true_eq, BitVec.toInt_zero]
  split_ifs at * <;> simp_all <;> omega

theorem clipFloor_le (hi : BitVec 32) (h : hi.toNat < 2 ^ 31) (v : EReal) : (clipFloor hi v).toNat ≤ hi.toNat :=
  clip_le hi _ h

/-- One more digit, without overflow. -/
theorem digit_toNat (a b : BitVec 32) (n la lb : ℕ) (ha : a.toNat ≤ la) (hb : b.toNat ≤ lb) (h : la * n + lb < 2 ^ 32) (hn : n < 2 ^ 32) :
    (IntOp.addi (IntOp.muli a (BitVec.ofNat 32 n)) b).toNat = a.toNat * n + b.toNat := by
  have hm : a.toNat * n ≤ la * n := Nat.mul_le_mul_right _ ha
  unfold IntOp.addi IntOp.muli
  rw [BitVec.toNat_add, BitVec.toNat_mul, BitVec.toNat_ofNat, Nat.mod_eq_of_lt hn, Nat.mod_eq_of_lt (a := a.toNat * n) (by omega), Nat.mod_eq_of_lt (by omega)]

/-- The flat bin is below 352. -/
theorem flatBin_lt (cs x y z rad : EReal) : (flatBin cs x y z rad).toNat < 352 := by
  unfold flatBin
  generalize ha : clipFloor 7#32 _ = a
  generalize hb : clipFloor 1#32 (spread _ _) = b
  generalize hc : clipFloor 1#32 _ = c
  generalize hd : clipFloor 10#32 _ = d
  have la : a.toNat ≤ 7 := ha ▸ clipFloor_le 7#32 (by decide) _
  have lb : b.toNat ≤ 1 := hb ▸ clipFloor_le 1#32 (by decide) _
  have lc : c.toNat ≤ 1 := hc ▸ clipFloor_le 1#32 (by decide) _
  have ld : d.toNat ≤ 10 := hd ▸ clipFloor_le 10#32 (by decide) _
  have e1 := digit_toNat a b 2 7 1 la lb (by decide) (by decide)
  have e2 := digit_toNat _ c 2 15 1 (e1.trans_le (by omega)) lc (by decide) (by decide)
  have e3 := digit_toNat _ d 11 31 10 (e2.trans_le (by omega)) ld (by decide) (by decide)
  refine (e3.trans (congrArg (fun t => t * 11 + d.toNat) (e2.trans (congrArg (fun t => t * 2 + c.toNat) e1)))).trans_lt ?_
  omega

end Cert.Shot

end
-- ==== Proof.Reference2Count.lean ====
module

public import proofs.«01_k».proof.Proof.Reference2Bins
public import proofs.«01_k».proof.Proof.ShotRange
public import Idealize.ShloMosaic.Lib.Routing.OpsPair

@[expose] public section

set_option maxRecDepth 16384

noncomputable section

/-! The reference descriptor, second half: adding one per neighbour at its bin counts the neighbours of each bin, and the
    result divides the counts by their length. -/

namespace Cert.Reference2Ideal.Desc

open Cert.Reference2Ideal Cert.Reference2Ideal.Read Cert.Reference2Ideal.Gen Idealize.ShloMosaic

variable (x0 : FVec Ideal S4x3x2048 .f32) (x1 : FVec Ideal S4x3x16x2048 .f32) (x2 : IVec S4x16x2048 32) (x3 : FVec Ideal S4x1x128 .f32)
variable (b : Fin 4) (n : Fin 2048) (q : Fin 16 → Fin 2048)

/-- A word is the word of the number it holds. -/
theorem word_self (w : BitVec 32) : BitVec.ofNat 32 w.toNat = w :=
  BitVec.eq_of_toNat_eq (by rw [BitVec.toNat_ofNat]; exact Nat.mod_eq_of_lt w.isLt)

/-- The target's first coordinate is the batch. -/
theorem target0_apply (k : Fin 16) : val_main_v102 (F := Ideal) x0 x1 x2 x3 (ix4 b n k 0) = BitVec.ofNat 32 b.val := by
  have h : val_main_v102 (F := Ideal) x0 x1 x2 x3 (ix4 b n k 0)
      = Scalar.select (IntOp.cmpi .slt (BitVec.ofNat 32 b.val) 0#32) (IntOp.addi (BitVec.ofNat 32 b.val) 4#32) (BitVec.ofNat 32 b.val) := by
    pointwise [val_main_v102, val_main_v99, val_main_v88, val_main_v87, val_main_v86, val_main_v85, val_main_v84, val_main_v79, val_main_v78,
      val_main_v77, val_main_c_28, val_main_c_29]
  rw [h]
  exact keep_index _ (by omega) _

/-- The second is the point. -/
theorem target1_apply (k : Fin 16) : val_main_v102 (F := Ideal) x0 x1 x2 x3 (ix4 b n k 1) = BitVec.ofNat 32 n.val := by
  have h : val_main_v102 (F := Ideal) x0 x1 x2 x3 (ix4 b n k 1)
      = Scalar.select (IntOp.cmpi .slt (BitVec.ofNat 32 n.val) 0#32) (IntOp.addi (BitVec.ofNat 32 n.val) 2048#32) (BitVec.ofNat 32 n.val) := by
    pointwise [val_main_v102, val_main_v100, val_main_v93, val_main_v92, val_main_v91, val_main_v90, val_main_v89, val_main_v82, val_main_v81,
      val_main_v80, val_main_c_30, val_main_c_31]
  rw [h]
  exact keep_index _ (by omega) _

/-- The third is the bin. -/
theorem target2_apply (hq : ∀ k, x2 (ix3 b k n) = BitVec.ofNat 32 (q k).val) (k : Fin 16) :
    val_main_v102 (F := Ideal) x0 x1 x2 x3 (ix4 b n k 2) = Shot.binOf x0 x1 x3 b n q k := by
  have h : val_main_v102 (F := Ideal) x0 x1 x2 x3 (ix4 b n k 2)
      = Scalar.select (IntOp.cmpi .slt (val_main_v76 (F := Ideal) x0 x1 x2 x3 (ix3 b n k)) 0#32)
          (IntOp.addi (val_main_v76 (F := Ideal) x0 x1 x2 x3 (ix3 b n k)) 352#32) (val_main_v76 (F := Ideal) x0 x1 x2 x3 (ix3 b n k)) := by
    pointwise [val_main_v102, val_main_v101, val_main_v98, val_main_v97, val_main_v96, val_main_v95, val_main_v94, val_main_c_32, val_main_c_33]
  rw [h, bin_apply x0 x1 x2 x3 b n q hq]
  have hlt := Shot.flatBin_lt (Shot.cosOf x0 b (q k) n) (x1 (ix4 b 0 k n)) (x1 (ix4 b 1 k n)) (x1 (ix4 b 2 k n)) (x3 (ix3 b 0 0))
  have e : BitVec.ofNat 32 (Shot.binOf x0 x1 x3 b n q k).toNat = Shot.binOf x0 x1 x3 b n q k := word_self _
  rw [← e]
  exact keep_index _ (lt_trans hlt (by decide)) _

/-- The dimension numbers of the counting: each update goes to one element, its three coordinates read off the targets. -/
abbrev binAt := scatter_S4x2048x352_S4x2048x16x3_S4x2048x16_n_012_012_3

/-- Where an update's start on axis `a` is read. -/
theorem scatter_start (k : Fin 16) (idx : IVec S4x2048x16x3 32) (a : Fin 3) :
    binAt.start (ix3 b n k : S4x2048x16.Idx) idx a + (binAt.window (ix3 b n k : S4x2048x16.Idx) a : ℤ) = (idx (ix4 b n k a)).toInt := by
  have hw : binAt.window (ix3 b n k : S4x2048x16.Idx) a = 0 := by
    unfold ScatterDims.window
    rw [dif_neg (show ¬ a ∈ binAt.sKept from by revert a; decide)]
  rw [hw]
  unfold ScatterDims.start
  rw [dif_pos (show a ∈ binAt.scatterDimsToOperandDims from by clear hw; revert a; decide)]
  simp only [Nat.cast_zero, add_zero]
  refine congrArg (fun i => (idx i).toInt) (funext fun e => Fin.ext ?_)
  match e with
  | ⟨0, _⟩ => rfl
  | ⟨1, _⟩ => rfl
  | ⟨2, _⟩ => rfl
  | ⟨3, _⟩ => match a with
    | ⟨0, _⟩ => rfl
    | ⟨1, _⟩ => rfl
    | ⟨2, _⟩ => rfl

/-- An update is named by its batch, point and neighbour. -/
theorem coords (j : S4x2048x16.Idx) : j = (ix3 (j 0) (j 1) (j 2) : S4x2048x16.Idx) := by
  funext a
  match a with
  | ⟨0, _⟩ => rfl
  | ⟨1, _⟩ => rfl
  | ⟨2, _⟩ => rfl

/-- The counts: at every point and bin, how many of the sixteen neighbours fall in the bin. -/
theorem counts_apply (hq : ∀ k, x2 (ix3 b k n) = BitVec.ofNat 32 (q k).val) (r : Fin 352) :
    val_main_v104 (F := Ideal) x0 x1 x2 x3 (ix3 b n r) = Shot.count (Shot.binOf x0 x1 x3 b n q) r := by
  have hz : val_main_v83 (F := Ideal) (ix3 b n r) = (0 : EReal) := by
    pointwise [val_main_v83, val_main_cst_27]
  have ho : ∀ j, val_main_v103 (F := Ideal) j = (1 : EReal) := by
    intro j
    rw [val_main_v103_apply, val_main_cst_34_apply]
    pointwise
  have hval : ∀ (w : BitVec 32) (p : ℕ), p < 2 ^ 31 → w = BitVec.ofNat 32 p → w.toInt = p := by
    rintro w p hp rfl
    rw [WordCmp.toInt_eq_toNat_of_lt_half (by rw [BitVec.toNat_ofNat]; omega), BitVec.toNat_ofNat]
    omega
  have hland : ∀ (b' : Fin 4) (n' : Fin 2048) (k : Fin 16),
      binAt.resultIdx? (ix3 b' n' k : S4x2048x16.Idx) (val_main_v102 (F := Ideal) x0 x1 x2 x3) = some (ix3 b n r : S4x2048x352.Idx)
        ↔ (b' = b ∧ n' = n) ∧ BitVec.ofNat 32 r.val = Shot.binOf x0 x1 x3 b n q k := by
    intro b' n' k
    rw [Routing.resultIdx?_eq_some]
    have h0 := scatter_start b' n' k (val_main_v102 (F := Ideal) x0 x1 x2 x3) 0
    have h1 := scatter_start b' n' k (val_main_v102 (F := Ideal) x0 x1 x2 x3) 1
    have h2 := scatter_start b' n' k (val_main_v102 (F := Ideal) x0 x1 x2 x3) 2
    rw [hval _ _ (by omega) (target0_apply x0 x1 x2 x3 b' n' k)] at h0
    rw [hval _ _ (by omega) (target1_apply x0 x1 x2 x3 b' n' k)] at h1
    have hb : (Shot.binOf x0 x1 x3 b n q k).toNat < 352 := Shot.flatBin_lt _ _ _ _ _
    have e : Shot.binOf x0 x1 x3 b n q k = BitVec.ofNat 32 (Shot.binOf x0 x1 x3 b n q k).toNat := (word_self _).symm
    constructor
    · intro h
      have g0 := h0.symm.trans (h 0)
      have g1 := h1.symm.trans (h 1)
      have eb : b' = b := Fin.ext (by exact_mod_cast g0)
      have en : n' = n := Fin.ext (by exact_mod_cast g1)
      subst eb en
      have g2 := h2.symm.trans (h 2)
      rw [target2_apply x0 x1 x2 x3 b' n' q hq, hval _ _ (by omega) e] at g2
      have g3 : (Shot.binOf x0 x1 x3 b' n' q k).toNat = r.val := by exact_mod_cast g2
      refine ⟨⟨rfl, rfl⟩, ?_⟩
      rw [e, g3]
    · rintro ⟨⟨rfl, rfl⟩, h⟩ a
      rw [target2_apply x0 x1 x2 x3 b' n' q hq, ← h, hval _ r.val (by omega) rfl] at h2
      match a with
      | ⟨0, _⟩ => exact h0
      | ⟨1, _⟩ => exact h1
      | ⟨2, _⟩ => exact h2
  show val_main_v83 (F := Ideal) (ix3 b n r) + _ = _
  rw [hz, zero_add]
  unfold Shot.count
  rw [← Finset.sum_filter]
  refine Finset.sum_nbij' (fun j => j 2) (fun k => (ix3 b n k : S4x2048x16.Idx)) ?_ ?_ ?_ ?_ ?_
  · intro j hj
    rw [coords j] at hj
    exact Finset.mem_filter.2 ⟨Finset.mem_univ _, ((hland _ _ _).1 (Finset.mem_filter.1 hj).2).2⟩
  · intro k hk
    exact Finset.mem_filter.2 ⟨Finset.mem_univ _, (hland _ _ _).2 ⟨⟨rfl, rfl⟩, (Finset.mem_filter.1 hk).2⟩⟩
  · intro j hj
    rw [coords j] at hj
    obtain ⟨hb, hn⟩ := ((hland _ _ _).1 (Finset.mem_filter.1 hj).2).1
    rw [← hb, ← hn]
    exact (coords j).symm
  · intro k _; rfl
  · intro j _; exact ho j

/-- The length of a point's histogram, kept away from zero. -/
theorem length_apply (hq : ∀ k, x2 (ix3 b k n) = BitVec.ofNat 32 (q k).val) :
    val_main_v107 (F := Ideal) x0 x1 x2 x3 (ix3 b n 0)
      = max (Ideal.sqrt (∑ r : Fin 352, Shot.count (Shot.binOf x0 x1 x3 b n q) r * Shot.count (Shot.binOf x0 x1 x3 b n q) r)) Shot.tiny := by
  have h : val_main_v107 (F := Ideal) x0 x1 x2 x3 (ix3 b n 0)
      = max (Ideal.sqrt (∑ r : Fin 352, val_main_v104 (F := Ideal) x0 x1 x2 x3 (ix3 b n r) * val_main_v104 (F := Ideal) x0 x1 x2 x3 (ix3 b n r)))
          Shot.tiny := by
    unfold Shot.tiny
    pointwise [val_main_v107, val_main_v106, val_main_cst_35, val_main_v105, val_main_call6_v2, val_main_call6_v1, val_main_call6_v0, val_main_call6_cst]
  rw [h]
  simp only [counts_apply x0 x1 x2 x3 b n q hq]

/-- The reference's result at batch `b`, bin `r` and point `n`. -/
theorem result_apply (hq : ∀ k, x2 (ix3 b k n) = BitVec.ofNat 32 (q k).val) (r : Fin 352) :
    val_main_v110 (F := Ideal) x0 x1 x2 x3 (ix3 b r n) = Shot.share (Shot.binOf x0 x1 x3 b n q) r := by
  have h : val_main_v110 (F := Ideal) x0 x1 x2 x3 (ix3 b r n)
      = Ideal.div (val_main_v104 (F := Ideal) x0 x1 x2 x3 (ix3 b n r)) (val_main_v107 (F := Ideal) x0 x1 x2 x3 (ix3 b n 0)) := by
    pointwise [val_main_v110, val_main_v109, val_main_v108]
  rw [h, counts_apply x0 x1 x2 x3 b n q hq, length_apply x0 x1 x2 x3 b n q hq]
  rfl

end Cert.Reference2Ideal.Desc

end
-- ==== Proof.DescriptorClaims.lean ====
module

public import proofs.«01_k».proof.Defs
public import proofs.«01_k».proof.Proof.Gen.Kernel2.Frame
public import proofs.«01_k».proof.Proof.Gen.Reference2Ideal.Run
public import proofs.«01_k».proof.Proof.Kernel2Array
public import proofs.«01_k».proof.Proof.Reference2Count
public import Idealize.ShloMosaic.Lib.ReduceAll

@[expose] public section

set_option maxRecDepth 16384

noncomputable section

/-! The claims of the descriptor call: that it and its reference end with equal histograms whenever the neighbour indices
    name points. -/

namespace Cert.Descriptor

open Idealize.ShloMosaic Idealize.ShloMosaic.TcCoe Idealize.SL.Sem

/-- The side conditions of the printed range test. -/
instance range_facts : Cert.Pre_in_range.Facts where
  bcast_S_S4x16x2048 := by decide
  reducesTo_S4x16x2048_S_d0_1_2 := by decide
  h_S_ := by decide

/-- A word from 0 up to 2048, read signed, is the word of a number below 2048. -/
theorem point_of_range (w : BitVec 32) (h : IntOp.andi (IntOp.cmpi .sge w 0#32) (IntOp.cmpi .slt w 2048#32) = 1#1) :
    w.toNat < 2048 := by
  have both : ∀ p q : Bool, IntOp.andi (BitVec.ofBool p) (BitVec.ofBool q) = 1#1 → p = true ∧ q = true := by decide
  have e := BitVec.toInt_eq_toNat_cond w
  obtain ⟨h1, h2⟩ := both _ _ h
  have l : (0#32).toInt = 0 := rfl
  have u : (2048#32).toInt = 2048 := rfl
  simp only [BitVec.sle_eq_decide, BitVec.slt_eq_decide, decide_eq_true_eq, l, u] at h1 h2
  have := w.isLt
  split_ifs at e <;> omega

/-- The precondition says of every neighbour index that it names a point. -/
theorem index_lt (x0 : FVec Ideal Pre_in_range.S4x3x2048 .f32) (x1 : FVec Ideal Pre_in_range.S4x3x16x2048 .f32)
    (x2 : IVec Pre_in_range.S4x16x2048 32) (x3 : FVec Ideal Pre_in_range.S4x1x128 .f32)
    (h : Cert.Pre_in_range.fn (F := Ideal) x0 x1 x2 x3 = fun _ => 1#1) (i : Pre_in_range.S4x16x2048.Idx) : (x2 i).toNat < 2048 := by
  have e := congrFun h ix0
  dsimp only [Pre_in_range.fn] at e
  haveI : Subsingleton Pre_in_range.S_.Idx := ⟨fun a b => funext fun k => k.elim0⟩
  exact point_of_range _ (Host.reduce_andi_all _ _ _ _ _ e i)

/-- The kernel's and the reference's histograms agree, array against array. -/
theorem results_agree (m : (ℓ : Loc Kernel2Ideal.nD Kernel2Ideal.τ Kernel2Ideal.sig) → Buf (Elt Ideal) ℓ) (c : Dev Kernel2Ideal.nD)
    (hr : ∀ i, (Kernel2Ideal.Desc.idxOf m c i).toNat < 2048) :
    Reference2Ideal.Read.val_main_v110 (F := Ideal) (Kernel2Ideal.Desc.normalsOf m c) (Kernel2Ideal.Desc.localOf m c) (Kernel2Ideal.Desc.idxOf m c)
        (Kernel2Ideal.Desc.radOf m c)
      = ((Kernel2Ideal.Gen.dats m 0 c).arrAt 4 Kernel2Ideal.cfg0.N : Vec Ideal Kernel2Ideal.S4x352x2048 .f32) := by
  have key : ∀ (b : Fin 4) (r : Fin 352) (n : Fin 2048),
      Reference2Ideal.Read.val_main_v110 (F := Ideal) (Kernel2Ideal.Desc.normalsOf m c) (Kernel2Ideal.Desc.localOf m c) (Kernel2Ideal.Desc.idxOf m c)
        (Kernel2Ideal.Desc.radOf m c) (ix3 b r n)
      = ((Kernel2Ideal.Gen.dats m 0 c).arrAt 4 Kernel2Ideal.cfg0.N : Vec Ideal Kernel2Ideal.S4x352x2048 .f32) (ix3 b r n) := by
    intro b r n
    have hn : n = Kernel2Ideal.Desc.col ⟨n.val / 256, by omega⟩ ⟨n.val % 256, Nat.mod_lt _ (by decide)⟩ := Fin.ext (by show n.val = _; simp only; omega)
    have hq : ∀ k : Fin 16, Kernel2Ideal.Desc.idxOf m c (ix3 b k n)
        = BitVec.ofNat 32 ((⟨(Kernel2Ideal.Desc.idxOf m c (ix3 b k n)).toNat, hr _⟩ : Fin 2048)).val := fun k =>
      (Reference2Ideal.Desc.word_self _).symm
    rw [Reference2Ideal.Desc.result_apply _ _ _ _ b n _ hq r]
    conv_rhs => rw [hn]
    refine (?_ : _ = _).trans (Kernel2Ideal.Desc.result_apply m c b _ _ r
      (fun k => ⟨(Kernel2Ideal.Desc.idxOf m c (ix3 b k n)).toNat, hr _⟩) (fun k => ?_)).symm
    · rw [← hn]
    · rw [← hn]; exact hq k
  funext i
  have hi : i = (ix3 (i 0) (i 1) (i 2) : Kernel2Ideal.S4x352x2048.Idx) := by
    funext a
    match a with
    | ⟨0, _⟩ => rfl
    | ⟨1, _⟩ => rfl
    | ⟨2, _⟩ => rfl
  rw [hi]
  exact key _ _ _

/-- The reference's frame: it declares no semaphore, and its run leaves the arguments. -/
theorem frame_ref : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- From memories that agree, with indices in range, both end with equal histograms. -/
theorem algebraic : Cert.algebraic_Kernel2Ideal_Reference2Ideal_pre_in_range := by
  intro m g m' g' hpre hag
  refine ⟨fun c => (Kernel2Ideal.Gen.dats m 0 c).arrAt 4 Kernel2Ideal.cfg0.N, Kernel2Ideal.Value.run_blocks m g, ?_⟩
  refine (θ_run _ _ _).mono (fun r h c => ⟨(h c).1.trans ?_, (h c).2⟩) (Cert.Reference2Ideal.Value.run (F := Ideal) m' g')
  obtain ⟨h0, h1, h2, h3⟩ := hag c
  refine (Reference2Ideal.Read.val_main_v110_eq (F := Ideal) _).trans ?_
  have e0 : StableHlo.launchContents m' c (Proc.devRef .tc Reference2Ideal.main_arg0) = Kernel2Ideal.Desc.normalsOf m c := h0
  have e1 : StableHlo.launchContents m' c (Proc.devRef .tc Reference2Ideal.main_arg1) = Kernel2Ideal.Desc.localOf m c := h1
  have e2 : StableHlo.launchContents m' c (Proc.devRef .tc Reference2Ideal.main_arg2) = Kernel2Ideal.Desc.idxOf m c := h2
  have e3 : StableHlo.launchContents m' c (Proc.devRef .tc Reference2Ideal.main_arg3) = Kernel2Ideal.Desc.radOf m c := h3
  rw [e0, e1, e2, e3]
  exact results_agree m c (fun i => index_lt _ _ _ _ (hpre c) i)

end Cert.Descriptor

end
-- ==== Proof.lean ====
module

public import proofs.«01_k».proof.Proof.NeighbourClaims
public import proofs.«01_k».proof.Proof.DescriptorClaims

@[expose] public section

/-- Every claim of this certificate. -/
theorem Cert.Proof.claim : Cert.Claim :=
  ⟨Cert.Kernel1.Gen.facts, Cert.Kernel1Ideal.Gen.facts, Cert.Reference1Ideal.Gen.facts,
    Cert.Kernel2.Gen.facts, Cert.Kernel2Ideal.Gen.facts, Cert.Reference2Ideal.Gen.facts,
    Cert.Neighbours.bound_facts, Cert.Descriptor.range_facts,
    fun m ρ _ => Cert.Kernel1.Gen.frame m ρ,
    fun m ρ _ => Cert.Kernel1Ideal.Gen.frame m ρ,
    fun m ρ _ => Cert.Kernel1Ideal.Gen.frame m ρ,
    Cert.Neighbours.frame_ref,
    fun m ρ _ => Cert.Neighbours.frame_ref m ρ trivial,
    fun m ρ _ => Cert.Kernel2.Gen.frame m ρ,
    fun m ρ _ => Cert.Kernel2Ideal.Gen.frame m ρ,
    fun m ρ _ => Cert.Kernel2Ideal.Gen.frame m ρ,
    Cert.Descriptor.frame_ref,
    fun m ρ _ => Cert.Descriptor.frame_ref m ρ trivial,
    Cert.Neighbours.preserves,
    Cert.Neighbours.algebraic,
    trivial,
    Cert.Descriptor.algebraic⟩
